-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x64x64 : Shape := ⟨3, ![1024, 64, 64]⟩
abbrev S64x64x1024 : Shape := ⟨3, ![64, 64, 1024]⟩
abbrev S64x3x64x1024 : Shape := ⟨4, ![64, 3, 64, 1024]⟩
abbrev S8x8x64x1024 : Shape := ⟨4, ![8, 8, 64, 1024]⟩
abbrev S8 : Shape := ⟨1, ![8]⟩
abbrev S2x8x3x64x1024 : Shape := ⟨5, ![2, 8, 3, 64, 1024]⟩
abbrev S2 : Shape := ⟨1, ![2]⟩
abbrev S1 : Shape := ⟨1, ![1]⟩
abbrev S_ : Shape := ⟨0, ![]⟩
abbrev S1x8x64x1024 : Shape := ⟨4, ![1, 8, 64, 1024]⟩
abbrev S8x64x1024 : Shape := ⟨3, ![8, 64, 1024]⟩
abbrev S1x8x3x64x1024 : Shape := ⟨5, ![1, 8, 3, 64, 1024]⟩
abbrev S8x3x64x1024 : Shape := ⟨4, ![8, 3, 64, 1024]⟩
abbrev S8x1x64x1024 : Shape := ⟨4, ![8, 1, 64, 1024]⟩
abbrev S1024x64x64x3 : Shape := ⟨4, ![1024, 64, 64, 3]⟩

abbrev nBuf : Space → Nat
  | .hbm => 4
  | .vmem => 2
  | .smem => 0
  | _ => 0

abbrev bufTy : (tb : Table) → Fin (tcTables nBuf tb) → BufTy
  | .hbm, ⟨0, _⟩ => ⟨S1024x64x64, .f32⟩
  | .hbm, ⟨1, _⟩ => ⟨S64x64x1024, .f32⟩
  | .hbm, ⟨2, _⟩ => ⟨S64x3x64x1024, .i32⟩
  | .hbm, ⟨3, _⟩ => ⟨S1024x64x64x3, .i32⟩
  | .local _ .vmem, ⟨0, _⟩ => ⟨S8x8x64x1024, .f32⟩
  | .local _ .vmem, ⟨1, _⟩ => ⟨S2x8x3x64x1024, .i32⟩
  | _, _ => ⟨S1024x64x64, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_scoped0 : Ref sig .tc := ⟨.vmem, 0, rfl⟩
abbrev cc0_scoped2 : Ref sig .tc := ⟨.vmem, 1, rfl⟩

abbrev nD : Nat := 1
abbrev τ : Topo := Topo.v7x

variable {F : FTy → Type} [FloatOps F]

abbrev grid0 : Pipeline.Grid := .none

def k0_off1 : Fin 1 → Nat :=
  let c0_i32_42_r0 : BitVec 32 := 0#32
  let c8_i32_43_r0 : BitVec 32 := 8#32
  let v45_r0 : BitVec 32 := Scalar.remui c0_i32_42_r0 c8_i32_43_r0
  ![v45_r0.toNat]
def k0_off2 : Fin 4 → Nat :=
  let c0_i32_42_r0 : BitVec 32 := 0#32
  let c8_i32_43_r0 : BitVec 32 := 8#32
  let v45_r0 : BitVec 32 := Scalar.remui c0_i32_42_r0 c8_i32_43_r0
  let c0_i32_44_r0 : BitVec 32 := 0#32
  let c0_i32_45_r0 : BitVec 32 := 0#32
  let c0_i32_46_r0 : BitVec 32 := 0#32
  ![v45_r0.toNat, 0, 0, 0]
def k0_cond1 : BitVec 1 :=
  let true_53_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c8_i32_r0 : BitVec 32 := 8#32
  let v7_r0 : BitVec 1 := Scalar.cmpi .eq v6_r0 c8_i32_r0
  let c0_i32_5_r0 : BitVec 32 := 0#32
  let v8_r0 : BitVec 32 := Scalar.select v7_r0 c0_i32_5_r0 v6_r0
  let c0_i32_6_r0 : BitVec 32 := 0#32
  let v9_r0 : BitVec 32 := Scalar.addi v8_r0 c0_i32_6_r0
  let c0_i32_52_r0 : BitVec 32 := 0#32
  let v52_r0 : BitVec 1 := Scalar.cmpi .ne v9_r0 c0_i32_52_r0
  let v53_r0 : BitVec 1 := Scalar.andi true_53_r0 v52_r0
  let true_54_r0 : BitVec 1 := 1#1
  let v54_r0 : BitVec 1 := Scalar.andi v53_r0 true_54_r0
  let v55_r0 : BitVec 32 := Scalar.extui v54_r0
  let c0_i32_55_r0 : BitVec 32 := 0#32
  let v56_r0 : BitVec 1 := Scalar.cmpi .ne v55_r0 c0_i32_55_r0
  v56_r0

def k0_off3 : Fin 1 → Nat :=
  let c0_i32_50_r0 : BitVec 32 := 0#32
  let c1_i32_51_r0 : BitVec 32 := 1#32
  let v51_r0 : BitVec 32 := Scalar.addi c0_i32_50_r0 c1_i32_51_r0
  let c8_i32_143_r0 : BitVec 32 := 8#32
  let v153_r0 : BitVec 32 := Scalar.remui v51_r0 c8_i32_143_r0
  ![v153_r0.toNat]
def k0_off4 : Fin 4 → Nat :=
  let c0_i32_50_r0 : BitVec 32 := 0#32
  let c1_i32_51_r0 : BitVec 32 := 1#32
  let v51_r0 : BitVec 32 := Scalar.addi c0_i32_50_r0 c1_i32_51_r0
  let c8_i32_143_r0 : BitVec 32 := 8#32
  let v153_r0 : BitVec 32 := Scalar.remui v51_r0 c8_i32_143_r0
  let c0_i32_145_r0 : BitVec 32 := 0#32
  let c0_i32_146_r0 : BitVec 32 := 0#32
  let c0_i32_147_r0 : BitVec 32 := 0#32
  ![v153_r0.toNat, 0, 0, 0]
def k0_off5 : Fin 3 → Nat :=
  let c8_i32_144_r0 : BitVec 32 := 8#32
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c8_i32_r0 : BitVec 32 := 8#32
  let v7_r0 : BitVec 1 := Scalar.cmpi .eq v6_r0 c8_i32_r0
  let c0_i32_5_r0 : BitVec 32 := 0#32
  let v8_r0 : BitVec 32 := Scalar.select v7_r0 c0_i32_5_r0 v6_r0
  let c0_i32_6_r0 : BitVec 32 := 0#32
  let v9_r0 : BitVec 32 := Scalar.addi v8_r0 c0_i32_6_r0
  let v154_r0 : BitVec 32 := Scalar.muli c8_i32_144_r0 v9_r0
  let c0_i32_148_r0 : BitVec 32 := 0#32
  let c0_i32_149_r0 : BitVec 32 := 0#32
  ![v154_r0.toNat, 0, 0]
def k0_cond2 : BitVec 1 :=
  let true_57_r0 : BitVec 1 := 1#1
  let true_8_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c8_i32_r0 : BitVec 32 := 8#32
  let v7_r0 : BitVec 1 := Scalar.cmpi .eq v6_r0 c8_i32_r0
  let c0_i32_5_r0 : BitVec 32 := 0#32
  let v8_r0 : BitVec 32 := Scalar.select v7_r0 c0_i32_5_r0 v6_r0
  let c1_i32_7_r0 : BitVec 32 := 1#32
  let v10_r0 : BitVec 32 := Scalar.addi v8_r0 c1_i32_7_r0
  let v11_r0 : BitVec 32 := Scalar.select true_8_r0 v10_r0 v8_r0
  let c8_i32_9_r0 : BitVec 32 := 8#32
  let v12_r0 : BitVec 1 := Scalar.cmpi .eq v11_r0 c8_i32_9_r0
  let c0_i32_10_r0 : BitVec 32 := 0#32
  let v13_r0 : BitVec 32 := Scalar.select v12_r0 c0_i32_10_r0 v11_r0
  let c0_i32_11_r0 : BitVec 32 := 0#32
  let v14_r0 : BitVec 32 := Scalar.addi v13_r0 c0_i32_11_r0
  let c0_i32_6_r0 : BitVec 32 := 0#32
  let v9_r0 : BitVec 32 := Scalar.addi v8_r0 c0_i32_6_r0
  let v59_r0 : BitVec 1 := Scalar.cmpi .ne v14_r0 v9_r0
  let v60_r0 : BitVec 1 := Scalar.andi true_57_r0 v59_r0
  let true_58_r0 : BitVec 1 := 1#1
  let v61_r0 : BitVec 1 := Scalar.andi v60_r0 true_58_r0
  let v62_r0 : BitVec 32 := Scalar.extui v61_r0
  let c0_i32_59_r0 : BitVec 32 := 0#32
  let v63_r0 : BitVec 1 := Scalar.cmpi .ne v62_r0 c0_i32_59_r0
  v63_r0

def k0_off6 : Fin 1 → Nat :=
  let true_53_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c8_i32_r0 : BitVec 32 := 8#32
  let v7_r0 : BitVec 1 := Scalar.cmpi .eq v6_r0 c8_i32_r0
  let c0_i32_5_r0 : BitVec 32 := 0#32
  let v8_r0 : BitVec 32 := Scalar.select v7_r0 c0_i32_5_r0 v6_r0
  let c0_i32_6_r0 : BitVec 32 := 0#32
  let v9_r0 : BitVec 32 := Scalar.addi v8_r0 c0_i32_6_r0
  let c0_i32_52_r0 : BitVec 32 := 0#32
  let v52_r0 : BitVec 1 := Scalar.cmpi .ne v9_r0 c0_i32_52_r0
  let v53_r0 : BitVec 1 := Scalar.andi true_53_r0 v52_r0
  let c0_i32_50_r0 : BitVec 32 := 0#32
  let c1_i32_51_r0 : BitVec 32 := 1#32
  let v51_r0 : BitVec 32 := Scalar.addi c0_i32_50_r0 c1_i32_51_r0
  let c1_i32_56_r0 : BitVec 32 := 1#32
  let v57_r0 : BitVec 32 := Scalar.addi v51_r0 c1_i32_56_r0
  let v58_r0 : BitVec 32 := Scalar.select v53_r0 v57_r0 v51_r0
  let c8_i32_143_r0 : BitVec 32 := 8#32
  let v153_r0 : BitVec 32 := Scalar.remui v58_r0 c8_i32_143_r0
  ![v153_r0.toNat]
def k0_off7 : Fin 4 → Nat :=
  let true_53_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c8_i32_r0 : BitVec 32 := 8#32
  let v7_r0 : BitVec 1 := Scalar.cmpi .eq v6_r0 c8_i32_r0
  let c0_i32_5_r0 : BitVec 32 := 0#32
  let v8_r0 : BitVec 32 := Scalar.select v7_r0 c0_i32_5_r0 v6_r0
  let c0_i32_6_r0 : BitVec 32 := 0#32
  let v9_r0 : BitVec 32 := Scalar.addi v8_r0 c0_i32_6_r0
  let c0_i32_52_r0 : BitVec 32 := 0#32
  let v52_r0 : BitVec 1 := Scalar.cmpi .ne v9_r0 c0_i32_52_r0
  let v53_r0 : BitVec 1 := Scalar.andi true_53_r0 v52_r0
  let c0_i32_50_r0 : BitVec 32 := 0#32
  let c1_i32_51_r0 : BitVec 32 := 1#32
  let v51_r0 : BitVec 32 := Scalar.addi c0_i32_50_r0 c1_i32_51_r0
  let c1_i32_56_r0 : BitVec 32 := 1#32
  let v57_r0 : BitVec 32 := Scalar.addi v51_r0 c1_i32_56_r0
  let v58_r0 : BitVec 32 := Scalar.select v53_r0 v57_r0 v51_r0
  let c8_i32_143_r0 : BitVec 32 := 8#32
  let v153_r0 : BitVec 32 := Scalar.remui v58_r0 c8_i32_143_r0
  let c0_i32_145_r0 : BitVec 32 := 0#32
  let c0_i32_146_r0 : BitVec 32 := 0#32
  let c0_i32_147_r0 : BitVec 32 := 0#32
  ![v153_r0.toNat, 0, 0, 0]
def k0_off8 : Fin 3 → Nat :=
  let c8_i32_144_r0 : BitVec 32 := 8#32
  let true_8_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c8_i32_r0 : BitVec 32 := 8#32
  let v7_r0 : BitVec 1 := Scalar.cmpi .eq v6_r0 c8_i32_r0
  let c0_i32_5_r0 : BitVec 32 := 0#32
  let v8_r0 : BitVec 32 := Scalar.select v7_r0 c0_i32_5_r0 v6_r0
  let c1_i32_7_r0 : BitVec 32 := 1#32
  let v10_r0 : BitVec 32 := Scalar.addi v8_r0 c1_i32_7_r0
  let v11_r0 : BitVec 32 := Scalar.select true_8_r0 v10_r0 v8_r0
  let c8_i32_9_r0 : BitVec 32 := 8#32
  let v12_r0 : BitVec 1 := Scalar.cmpi .eq v11_r0 c8_i32_9_r0
  let c0_i32_10_r0 : BitVec 32 := 0#32
  let v13_r0 : BitVec 32 := Scalar.select v12_r0 c0_i32_10_r0 v11_r0
  let c0_i32_11_r0 : BitVec 32 := 0#32
  let v14_r0 : BitVec 32 := Scalar.addi v13_r0 c0_i32_11_r0
  let v154_r0 : BitVec 32 := Scalar.muli c8_i32_144_r0 v14_r0
  let c0_i32_148_r0 : BitVec 32 := 0#32
  let c0_i32_149_r0 : BitVec 32 := 0#32
  ![v154_r0.toNat, 0, 0]
def k0_cond3 : BitVec 1 :=
  let true_61_r0 : BitVec 1 := 1#1
  let true_13_r0 : BitVec 1 := 1#1
  let true_8_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c8_i32_r0 : BitVec 32 := 8#32
  let v7_r0 : BitVec 1 := Scalar.cmpi .eq v6_r0 c8_i32_r0
  let c0_i32_5_r0 : BitVec 32 := 0#32
  let v8_r0 : BitVec 32 := Scalar.select v7_r0 c0_i32_5_r0 v6_r0
  let c1_i32_7_r0 : BitVec 32 := 1#32
  let v10_r0 : BitVec 32 := Scalar.addi v8_r0 c1_i32_7_r0
  let v11_r0 : BitVec 32 := Scalar.select true_8_r0 v10_r0 v8_r0
  let c8_i32_9_r0 : BitVec 32 := 8#32
  let v12_r0 : BitVec 1 := Scalar.cmpi .eq v11_r0 c8_i32_9_r0
  let c0_i32_10_r0 : BitVec 32 := 0#32
  let v13_r0 : BitVec 32 := Scalar.select v12_r0 c0_i32_10_r0 v11_r0
  let c1_i32_12_r0 : BitVec 32 := 1#32
  let v15_r0 : BitVec 32 := Scalar.addi v13_r0 c1_i32_12_r0
  let v16_r0 : BitVec 32 := Scalar.select true_13_r0 v15_r0 v13_r0
  let c8_i32_14_r0 : BitVec 32 := 8#32
  let v17_r0 : BitVec 1 := Scalar.cmpi .eq v16_r0 c8_i32_14_r0
  let c0_i32_15_r0 : BitVec 32 := 0#32
  let v18_r0 : BitVec 32 := Scalar.select v17_r0 c0_i32_15_r0 v16_r0
  let c0_i32_16_r0 : BitVec 32 := 0#32
  let v19_r0 : BitVec 32 := Scalar.addi v18_r0 c0_i32_16_r0
  let c0_i32_11_r0 : BitVec 32 := 0#32
  let v14_r0 : BitVec 32 := Scalar.addi v13_r0 c0_i32_11_r0
  let v66_r0 : BitVec 1 := Scalar.cmpi .ne v19_r0 v14_r0
  let v67_r0 : BitVec 1 := Scalar.andi true_61_r0 v66_r0
  let true_62_r0 : BitVec 1 := 1#1
  let v68_r0 : BitVec 1 := Scalar.andi v67_r0 true_62_r0
  let v69_r0 : BitVec 32 := Scalar.extui v68_r0
  let c0_i32_63_r0 : BitVec 32 := 0#32
  let v70_r0 : BitVec 1 := Scalar.cmpi .ne v69_r0 c0_i32_63_r0
  v70_r0

def k0_off9 : Fin 1 → Nat :=
  let true_57_r0 : BitVec 1 := 1#1
  let true_8_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c8_i32_r0 : BitVec 32 := 8#32
  let v7_r0 : BitVec 1 := Scalar.cmpi .eq v6_r0 c8_i32_r0
  let c0_i32_5_r0 : BitVec 32 := 0#32
  let v8_r0 : BitVec 32 := Scalar.select v7_r0 c0_i32_5_r0 v6_r0
  let c1_i32_7_r0 : BitVec 32 := 1#32
  let v10_r0 : BitVec 32 := Scalar.addi v8_r0 c1_i32_7_r0
  let v11_r0 : BitVec 32 := Scalar.select true_8_r0 v10_r0 v8_r0
  let c8_i32_9_r0 : BitVec 32 := 8#32
  let v12_r0 : BitVec 1 := Scalar.cmpi .eq v11_r0 c8_i32_9_r0
  let c0_i32_10_r0 : BitVec 32 := 0#32
  let v13_r0 : BitVec 32 := Scalar.select v12_r0 c0_i32_10_r0 v11_r0
  let c0_i32_11_r0 : BitVec 32 := 0#32
  let v14_r0 : BitVec 32 := Scalar.addi v13_r0 c0_i32_11_r0
  let c0_i32_6_r0 : BitVec 32 := 0#32
  let v9_r0 : BitVec 32 := Scalar.addi v8_r0 c0_i32_6_r0
  let v59_r0 : BitVec 1 := Scalar.cmpi .ne v14_r0 v9_r0
  let v60_r0 : BitVec 1 := Scalar.andi true_57_r0 v59_r0
  let true_53_r0 : BitVec 1 := 1#1
  let c0_i32_52_r0 : BitVec 32 := 0#32
  let v52_r0 : BitVec 1 := Scalar.cmpi .ne v9_r0 c0_i32_52_r0
  let v53_r0 : BitVec 1 := Scalar.andi true_53_r0 v52_r0
  let c0_i32_50_r0 : BitVec 32 := 0#32
  let c1_i32_51_r0 : BitVec 32 := 1#32
  let v51_r0 : BitVec 32 := Scalar.addi c0_i32_50_r0 c1_i32_51_r0
  let c1_i32_56_r0 : BitVec 32 := 1#32
  let v57_r0 : BitVec 32 := Scalar.addi v51_r0 c1_i32_56_r0
  let v58_r0 : BitVec 32 := Scalar.select v53_r0 v57_r0 v51_r0
  let c1_i32_60_r0 : BitVec 32 := 1#32
  let v64_r0 : BitVec 32 := Scalar.addi v58_r0 c1_i32_60_r0
  let v65_r0 : BitVec 32 := Scalar.select v60_r0 v64_r0 v58_r0
  let c8_i32_143_r0 : BitVec 32 := 8#32
  let v153_r0 : BitVec 32 := Scalar.remui v65_r0 c8_i32_143_r0
  ![v153_r0.toNat]
def k0_off10 : Fin 4 → Nat :=
  let true_57_r0 : BitVec 1 := 1#1
  let true_8_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c8_i32_r0 : BitVec 32 := 8#32
  let v7_r0 : BitVec 1 := Scalar.cmpi .eq v6_r0 c8_i32_r0
  let c0_i32_5_r0 : BitVec 32 := 0#32
  let v8_r0 : BitVec 32 := Scalar.select v7_r0 c0_i32_5_r0 v6_r0
  let c1_i32_7_r0 : BitVec 32 := 1#32
  let v10_r0 : BitVec 32 := Scalar.addi v8_r0 c1_i32_7_r0
  let v11_r0 : BitVec 32 := Scalar.select true_8_r0 v10_r0 v8_r0
  let c8_i32_9_r0 : BitVec 32 := 8#32
  let v12_r0 : BitVec 1 := Scalar.cmpi .eq v11_r0 c8_i32_9_r0
  let c0_i32_10_r0 : BitVec 32 := 0#32
  let v13_r0 : BitVec 32 := Scalar.select v12_r0 c0_i32_10_r0 v11_r0
  let c0_i32_11_r0 : BitVec 32 := 0#32
  let v14_r0 : BitVec 32 := Scalar.addi v13_r0 c0_i32_11_r0
  let c0_i32_6_r0 : BitVec 32 := 0#32
  let v9_r0 : BitVec 32 := Scalar.addi v8_r0 c0_i32_6_r0
  let v59_r0 : BitVec 1 := Scalar.cmpi .ne v14_r0 v9_r0
  let v60_r0 : BitVec 1 := Scalar.andi true_57_r0 v59_r0
  let true_53_r0 : BitVec 1 := 1#1
  let c0_i32_52_r0 : BitVec 32 := 0#32
  let v52_r0 : BitVec 1 := Scalar.cmpi .ne v9_r0 c0_i32_52_r0
  let v53_r0 : BitVec 1 := Scalar.andi true_53_r0 v52_r0
  let c0_i32_50_r0 : BitVec 32 := 0#32
  let c1_i32_51_r0 : BitVec 32 := 1#32
  let v51_r0 : BitVec 32 := Scalar.addi c0_i32_50_r0 c1_i32_51_r0
  let c1_i32_56_r0 : BitVec 32 := 1#32
  let v57_r0 : BitVec 32 := Scalar.addi v51_r0 c1_i32_56_r0
  let v58_r0 : BitVec 32 := Scalar.select v53_r0 v57_r0 v51_r0
  let c1_i32_60_r0 : BitVec 32 := 1#32
  let v64_r0 : BitVec 32 := Scalar.addi v58_r0 c1_i32_60_r0
  let v65_r0 : BitVec 32 := Scalar.select v60_r0 v64_r0 v58_r0
  let c8_i32_143_r0 : BitVec 32 := 8#32
  let v153_r0 : BitVec 32 := Scalar.remui v65_r0 c8_i32_143_r0
  let c0_i32_145_r0 : BitVec 32 := 0#32
  let c0_i32_146_r0 : BitVec 32 := 0#32
  let c0_i32_147_r0 : BitVec 32 := 0#32
  ![v153_r0.toNat, 0, 0, 0]
def k0_off11 : Fin 3 → Nat :=
  let c8_i32_144_r0 : BitVec 32 := 8#32
  let true_13_r0 : BitVec 1 := 1#1
  let true_8_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c8_i32_r0 : BitVec 32 := 8#32
  let v7_r0 : BitVec 1 := Scalar.cmpi .eq v6_r0 c8_i32_r0
  let c0_i32_5_r0 : BitVec 32 := 0#32
  let v8_r0 : BitVec 32 := Scalar.select v7_r0 c0_i32_5_r0 v6_r0
  let c1_i32_7_r0 : BitVec 32 := 1#32
  let v10_r0 : BitVec 32 := Scalar.addi v8_r0 c1_i32_7_r0
  let v11_r0 : BitVec 32 := Scalar.select true_8_r0 v10_r0 v8_r0
  let c8_i32_9_r0 : BitVec 32 := 8#32
  let v12_r0 : BitVec 1 := Scalar.cmpi .eq v11_r0 c8_i32_9_r0
  let c0_i32_10_r0 : BitVec 32 := 0#32
  let v13_r0 : BitVec 32 := Scalar.select v12_r0 c0_i32_10_r0 v11_r0
  let c1_i32_12_r0 : BitVec 32 := 1#32
  let v15_r0 : BitVec 32 := Scalar.addi v13_r0 c1_i32_12_r0
  let v16_r0 : BitVec 32 := Scalar.select true_13_r0 v15_r0 v13_r0
  let c8_i32_14_r0 : BitVec 32 := 8#32
  let v17_r0 : BitVec 1 := Scalar.cmpi .eq v16_r0 c8_i32_14_r0
  let c0_i32_15_r0 : BitVec 32 := 0#32
  let v18_r0 : BitVec 32 := Scalar.select v17_r0 c0_i32_15_r0 v16_r0
  let c0_i32_16_r0 : BitVec 32 := 0#32
  let v19_r0 : BitVec 32 := Scalar.addi v18_r0 c0_i32_16_r0
  let v154_r0 : BitVec 32 := Scalar.muli c8_i32_144_r0 v19_r0
  let c0_i32_148_r0 : BitVec 32 := 0#32
  let c0_i32_149_r0 : BitVec 32 := 0#32
  ![v154_r0.toNat, 0, 0]
def k0_cond4 : BitVec 1 :=
  let true_65_r0 : BitVec 1 := 1#1
  let true_18_r0 : BitVec 1 := 1#1
  let true_13_r0 : BitVec 1 := 1#1
  let true_8_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c8_i32_r0 : BitVec 32 := 8#32
  let v7_r0 : BitVec 1 := Scalar.cmpi .eq v6_r0 c8_i32_r0
  let c0_i32_5_r0 : BitVec 32 := 0#32
  let v8_r0 : BitVec 32 := Scalar.select v7_r0 c0_i32_5_r0 v6_r0
  let c1_i32_7_r0 : BitVec 32 := 1#32
  let v10_r0 : BitVec 32 := Scalar.addi v8_r0 c1_i32_7_r0
  let v11_r0 : BitVec 32 := Scalar.select true_8_r0 v10_r0 v8_r0
  let c8_i32_9_r0 : BitVec 32 := 8#32
  let v12_r0 : BitVec 1 := Scalar.cmpi .eq v11_r0 c8_i32_9_r0
  let c0_i32_10_r0 : BitVec 32 := 0#32
  let v13_r0 : BitVec 32 := Scalar.select v12_r0 c0_i32_10_r0 v11_r0
  let c1_i32_12_r0 : BitVec 32 := 1#32
  let v15_r0 : BitVec 32 := Scalar.addi v13_r0 c1_i32_12_r0
  let v16_r0 : BitVec 32 := Scalar.select true_13_r0 v15_r0 v13_r0
  let c8_i32_14_r0 : BitVec 32 := 8#32
  let v17_r0 : BitVec 1 := Scalar.cmpi .eq v16_r0 c8_i32_14_r0
  let c0_i32_15_r0 : BitVec 32 := 0#32
  let v18_r0 : BitVec 32 := Scalar.select v17_r0 c0_i32_15_r0 v16_r0
  let c1_i32_17_r0 : BitVec 32 := 1#32
  let v20_r0 : BitVec 32 := Scalar.addi v18_r0 c1_i32_17_r0
  let v21_r0 : BitVec 32 := Scalar.select true_18_r0 v20_r0 v18_r0
  let c8_i32_19_r0 : BitVec 32 := 8#32
  let v22_r0 : BitVec 1 := Scalar.cmpi .eq v21_r0 c8_i32_19_r0
  let c0_i32_20_r0 : BitVec 32 := 0#32
  let v23_r0 : BitVec 32 := Scalar.select v22_r0 c0_i32_20_r0 v21_r0
  let c0_i32_21_r0 : BitVec 32 := 0#32
  let v24_r0 : BitVec 32 := Scalar.addi v23_r0 c0_i32_21_r0
  let c0_i32_16_r0 : BitVec 32 := 0#32
  let v19_r0 : BitVec 32 := Scalar.addi v18_r0 c0_i32_16_r0
  let v73_r0 : BitVec 1 := Scalar.cmpi .ne v24_r0 v19_r0
  let v74_r0 : BitVec 1 := Scalar.andi true_65_r0 v73_r0
  let true_66_r0 : BitVec 1 := 1#1
  let v75_r0 : BitVec 1 := Scalar.andi v74_r0 true_66_r0
  let v76_r0 : BitVec 32 := Scalar.extui v75_r0
  let c0_i32_67_r0 : BitVec 32 := 0#32
  let v77_r0 : BitVec 1 := Scalar.cmpi .ne v76_r0 c0_i32_67_r0
  v77_r0

def k0_off12 : Fin 1 → Nat :=
  let true_61_r0 : BitVec 1 := 1#1
  let true_13_r0 : BitVec 1 := 1#1
  let true_8_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c8_i32_r0 : BitVec 32 := 8#32
  let v7_r0 : BitVec 1 := Scalar.cmpi .eq v6_r0 c8_i32_r0
  let c0_i32_5_r0 : BitVec 32 := 0#32
  let v8_r0 : BitVec 32 := Scalar.select v7_r0 c0_i32_5_r0 v6_r0
  let c1_i32_7_r0 : BitVec 32 := 1#32
  let v10_r0 : BitVec 32 := Scalar.addi v8_r0 c1_i32_7_r0
  let v11_r0 : BitVec 32 := Scalar.select true_8_r0 v10_r0 v8_r0
  let c8_i32_9_r0 : BitVec 32 := 8#32
  let v12_r0 : BitVec 1 := Scalar.cmpi .eq v11_r0 c8_i32_9_r0
  let c0_i32_10_r0 : BitVec 32 := 0#32
  let v13_r0 : BitVec 32 := Scalar.select v12_r0 c0_i32_10_r0 v11_r0
  let c1_i32_12_r0 : BitVec 32 := 1#32
  let v15_r0 : BitVec 32 := Scalar.addi v13_r0 c1_i32_12_r0
  let v16_r0 : BitVec 32 := Scalar.select true_13_r0 v15_r0 v13_r0
  let c8_i32_14_r0 : BitVec 32 := 8#32
  let v17_r0 : BitVec 1 := Scalar.cmpi .eq v16_r0 c8_i32_14_r0
  let c0_i32_15_r0 : BitVec 32 := 0#32
  let v18_r0 : BitVec 32 := Scalar.select v17_r0 c0_i32_15_r0 v16_r0
  let c0_i32_16_r0 : BitVec 32 := 0#32
  let v19_r0 : BitVec 32 := Scalar.addi v18_r0 c0_i32_16_r0
  let c0_i32_11_r0 : BitVec 32 := 0#32
  let v14_r0 : BitVec 32 := Scalar.addi v13_r0 c0_i32_11_r0
  let v66_r0 : BitVec 1 := Scalar.cmpi .ne v19_r0 v14_r0
  let v67_r0 : BitVec 1 := Scalar.andi true_61_r0 v66_r0
  let true_57_r0 : BitVec 1 := 1#1
  let c0_i32_6_r0 : BitVec 32 := 0#32
  let v9_r0 : BitVec 32 := Scalar.addi v8_r0 c0_i32_6_r0
  let v59_r0 : BitVec 1 := Scalar.cmpi .ne v14_r0 v9_r0
  let v60_r0 : BitVec 1 := Scalar.andi true_57_r0 v59_r0
  let true_53_r0 : BitVec 1 := 1#1
  let c0_i32_52_r0 : BitVec 32 := 0#32
  let v52_r0 : BitVec 1 := Scalar.cmpi .ne v9_r0 c0_i32_52_r0
  let v53_r0 : BitVec 1 := Scalar.andi true_53_r0 v52_r0
  let c0_i32_50_r0 : BitVec 32 := 0#32
  let c1_i32_51_r0 : BitVec 32 := 1#32
  let v51_r0 : BitVec 32 := Scalar.addi c0_i32_50_r0 c1_i32_51_r0
  let c1_i32_56_r0 : BitVec 32 := 1#32
  let v57_r0 : BitVec 32 := Scalar.addi v51_r0 c1_i32_56_r0
  let v58_r0 : BitVec 32 := Scalar.select v53_r0 v57_r0 v51_r0
  let c1_i32_60_r0 : BitVec 32 := 1#32
  let v64_r0 : BitVec 32 := Scalar.addi v58_r0 c1_i32_60_r0
  let v65_r0 : BitVec 32 := Scalar.select v60_r0 v64_r0 v58_r0
  let c1_i32_64_r0 : BitVec 32 := 1#32
  let v71_r0 : BitVec 32 := Scalar.addi v65_r0 c1_i32_64_r0
  let v72_r0 : BitVec 32 := Scalar.select v67_r0 v71_r0 v65_r0
  let c8_i32_143_r0 : BitVec 32 := 8#32
  let v153_r0 : BitVec 32 := Scalar.remui v72_r0 c8_i32_143_r0
  ![v153_r0.toNat]
def k0_off13 : Fin 4 → Nat :=
  let true_61_r0 : BitVec 1 := 1#1
  let true_13_r0 : BitVec 1 := 1#1
  let true_8_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c8_i32_r0 : BitVec 32 := 8#32
  let v7_r0 : BitVec 1 := Scalar.cmpi .eq v6_r0 c8_i32_r0
  let c0_i32_5_r0 : BitVec 32 := 0#32
  let v8_r0 : BitVec 32 := Scalar.select v7_r0 c0_i32_5_r0 v6_r0
  let c1_i32_7_r0 : BitVec 32 := 1#32
  let v10_r0 : BitVec 32 := Scalar.addi v8_r0 c1_i32_7_r0
  let v11_r0 : BitVec 32 := Scalar.select true_8_r0 v10_r0 v8_r0
  let c8_i32_9_r0 : BitVec 32 := 8#32
  let v12_r0 : BitVec 1 := Scalar.cmpi .eq v11_r0 c8_i32_9_r0
  let c0_i32_10_r0 : BitVec 32 := 0#32
  let v13_r0 : BitVec 32 := Scalar.select v12_r0 c0_i32_10_r0 v11_r0
  let c1_i32_12_r0 : BitVec 32 := 1#32
  let v15_r0 : BitVec 32 := Scalar.addi v13_r0 c1_i32_12_r0
  let v16_r0 : BitVec 32 := Scalar.select true_13_r0 v15_r0 v13_r0
  let c8_i32_14_r0 : BitVec 32 := 8#32
  let v17_r0 : BitVec 1 := Scalar.cmpi .eq v16_r0 c8_i32_14_r0
  let c0_i32_15_r0 : BitVec 32 := 0#32
  let v18_r0 : BitVec 32 := Scalar.select v17_r0 c0_i32_15_r0 v16_r0
  let c0_i32_16_r0 : BitVec 32 := 0#32
  let v19_r0 : BitVec 32 := Scalar.addi v18_r0 c0_i32_16_r0
  let c0_i32_11_r0 : BitVec 32 := 0#32
  let v14_r0 : BitVec 32 := Scalar.addi v13_r0 c0_i32_11_r0
  let v66_r0 : BitVec 1 := Scalar.cmpi .ne v19_r0 v14_r0
  let v67_r0 : BitVec 1 := Scalar.andi true_61_r0 v66_r0
  let true_57_r0 : BitVec 1 := 1#1
  let c0_i32_6_r0 : BitVec 32 := 0#32
  let v9_r0 : BitVec 32 := Scalar.addi v8_r0 c0_i32_6_r0
  let v59_r0 : BitVec 1 := Scalar.cmpi .ne v14_r0 v9_r0
  let v60_r0 : BitVec 1 := Scalar.andi true_57_r0 v59_r0
  let true_53_r0 : BitVec 1 := 1#1
  let c0_i32_52_r0 : BitVec 32 := 0#32
  let v52_r0 : BitVec 1 := Scalar.cmpi .ne v9_r0 c0_i32_52_r0
  let v53_r0 : BitVec 1 := Scalar.andi true_53_r0 v52_r0
  let c0_i32_50_r0 : BitVec 32 := 0#32
  let c1_i32_51_r0 : BitVec 32 := 1#32
  let v51_r0 : BitVec 32 := Scalar.addi c0_i32_50_r0 c1_i32_51_r0
  let c1_i32_56_r0 : BitVec 32 := 1#32
  let v57_r0 : BitVec 32 := Scalar.addi v51_r0 c1_i32_56_r0
  let v58_r0 : BitVec 32 := Scalar.select v53_r0 v57_r0 v51_r0
  let c1_i32_60_r0 : BitVec 32 := 1#32
  let v64_r0 : BitVec 32 := Scalar.addi v58_r0 c1_i32_60_r0
  let v65_r0 : BitVec 32 := Scalar.select v60_r0 v64_r0 v58_r0
  let c1_i32_64_r0 : BitVec 32 := 1#32
  let v71_r0 : BitVec 32 := Scalar.addi v65_r0 c1_i32_64_r0
  let v72_r0 : BitVec 32 := Scalar.select v67_r0 v71_r0 v65_r0
  let c8_i32_143_r0 : BitVec 32 := 8#32
  let v153_r0 : BitVec 32 := Scalar.remui v72_r0 c8_i32_143_r0
  let c0_i32_145_r0 : BitVec 32 := 0#32
  let c0_i32_146_r0 : BitVec 32 := 0#32
  let c0_i32_147_r0 : BitVec 32 := 0#32
  ![v153_r0.toNat, 0, 0, 0]
def k0_off14 : Fin 3 → Nat :=
  let c8_i32_144_r0 : BitVec 32 := 8#32
  let true_18_r0 : BitVec 1 := 1#1
  let true_13_r0 : BitVec 1 := 1#1
  let true_8_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c8_i32_r0 : BitVec 32 := 8#32
  let v7_r0 : BitVec 1 := Scalar.cmpi .eq v6_r0 c8_i32_r0
  let c0_i32_5_r0 : BitVec 32 := 0#32
  let v8_r0 : BitVec 32 := Scalar.select v7_r0 c0_i32_5_r0 v6_r0
  let c1_i32_7_r0 : BitVec 32 := 1#32
  let v10_r0 : BitVec 32 := Scalar.addi v8_r0 c1_i32_7_r0
  let v11_r0 : BitVec 32 := Scalar.select true_8_r0 v10_r0 v8_r0
  let c8_i32_9_r0 : BitVec 32 := 8#32
  let v12_r0 : BitVec 1 := Scalar.cmpi .eq v11_r0 c8_i32_9_r0
  let c0_i32_10_r0 : BitVec 32 := 0#32
  let v13_r0 : BitVec 32 := Scalar.select v12_r0 c0_i32_10_r0 v11_r0
  let c1_i32_12_r0 : BitVec 32 := 1#32
  let v15_r0 : BitVec 32 := Scalar.addi v13_r0 c1_i32_12_r0
  let v16_r0 : BitVec 32 := Scalar.select true_13_r0 v15_r0 v13_r0
  let c8_i32_14_r0 : BitVec 32 := 8#32
  let v17_r0 : BitVec 1 := Scalar.cmpi .eq v16_r0 c8_i32_14_r0
  let c0_i32_15_r0 : BitVec 32 := 0#32
  let v18_r0 : BitVec 32 := Scalar.select v17_r0 c0_i32_15_r0 v16_r0
  let c1_i32_17_r0 : BitVec 32 := 1#32
  let v20_r0 : BitVec 32 := Scalar.addi v18_r0 c1_i32_17_r0
  let v21_r0 : BitVec 32 := Scalar.select true_18_r0 v20_r0 v18_r0
  let c8_i32_19_r0 : BitVec 32 := 8#32
  let v22_r0 : BitVec 1 := Scalar.cmpi .eq v21_r0 c8_i32_19_r0
  let c0_i32_20_r0 : BitVec 32 := 0#32
  let v23_r0 : BitVec 32 := Scalar.select v22_r0 c0_i32_20_r0 v21_r0
  let c0_i32_21_r0 : BitVec 32 := 0#32
  let v24_r0 : BitVec 32 := Scalar.addi v23_r0 c0_i32_21_r0
  let v154_r0 : BitVec 32 := Scalar.muli c8_i32_144_r0 v24_r0
  let c0_i32_148_r0 : BitVec 32 := 0#32
  let c0_i32_149_r0 : BitVec 32 := 0#32
  ![v154_r0.toNat, 0, 0]
def k0_cond5 : BitVec 1 :=
  let true_69_r0 : BitVec 1 := 1#1
  let true_23_r0 : BitVec 1 := 1#1
  let true_18_r0 : BitVec 1 := 1#1
  let true_13_r0 : BitVec 1 := 1#1
  let true_8_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c8_i32_r0 : BitVec 32 := 8#32
  let v7_r0 : BitVec 1 := Scalar.cmpi .eq v6_r0 c8_i32_r0
  let c0_i32_5_r0 : BitVec 32 := 0#32
  let v8_r0 : BitVec 32 := Scalar.select v7_r0 c0_i32_5_r0 v6_r0
  let c1_i32_7_r0 : BitVec 32 := 1#32
  let v10_r0 : BitVec 32 := Scalar.addi v8_r0 c1_i32_7_r0
  let v11_r0 : BitVec 32 := Scalar.select true_8_r0 v10_r0 v8_r0
  let c8_i32_9_r0 : BitVec 32 := 8#32
  let v12_r0 : BitVec 1 := Scalar.cmpi .eq v11_r0 c8_i32_9_r0
  let c0_i32_10_r0 : BitVec 32 := 0#32
  let v13_r0 : BitVec 32 := Scalar.select v12_r0 c0_i32_10_r0 v11_r0
  let c1_i32_12_r0 : BitVec 32 := 1#32
  let v15_r0 : BitVec 32 := Scalar.addi v13_r0 c1_i32_12_r0
  let v16_r0 : BitVec 32 := Scalar.select true_13_r0 v15_r0 v13_r0
  let c8_i32_14_r0 : BitVec 32 := 8#32
  let v17_r0 : BitVec 1 := Scalar.cmpi .eq v16_r0 c8_i32_14_r0
  let c0_i32_15_r0 : BitVec 32 := 0#32
  let v18_r0 : BitVec 32 := Scalar.select v17_r0 c0_i32_15_r0 v16_r0
  let c1_i32_17_r0 : BitVec 32 := 1#32
  let v20_r0 : BitVec 32 := Scalar.addi v18_r0 c1_i32_17_r0
  let v21_r0 : BitVec 32 := Scalar.select true_18_r0 v20_r0 v18_r0
  let c8_i32_19_r0 : BitVec 32 := 8#32
  let v22_r0 : BitVec 1 := Scalar.cmpi .eq v21_r0 c8_i32_19_r0
  let c0_i32_20_r0 : BitVec 32 := 0#32
  let v23_r0 : BitVec 32 := Scalar.select v22_r0 c0_i32_20_r0 v21_r0
  let c1_i32_22_r0 : BitVec 32 := 1#32
  let v25_r0 : BitVec 32 := Scalar.addi v23_r0 c1_i32_22_r0
  let v26_r0 : BitVec 32 := Scalar.select true_23_r0 v25_r0 v23_r0
  let c8_i32_24_r0 : BitVec 32 := 8#32
  let v27_r0 : BitVec 1 := Scalar.cmpi .eq v26_r0 c8_i32_24_r0
  let c0_i32_25_r0 : BitVec 32 := 0#32
  let v28_r0 : BitVec 32 := Scalar.select v27_r0 c0_i32_25_r0 v26_r0
  let c0_i32_26_r0 : BitVec 32 := 0#32
  let v29_r0 : BitVec 32 := Scalar.addi v28_r0 c0_i32_26_r0
  let c0_i32_21_r0 : BitVec 32 := 0#32
  let v24_r0 : BitVec 32 := Scalar.addi v23_r0 c0_i32_21_r0
  let v80_r0 : BitVec 1 := Scalar.cmpi .ne v29_r0 v24_r0
  let v81_r0 : BitVec 1 := Scalar.andi true_69_r0 v80_r0
  let true_70_r0 : BitVec 1 := 1#1
  let v82_r0 : BitVec 1 := Scalar.andi v81_r0 true_70_r0
  let v83_r0 : BitVec 32 := Scalar.extui v82_r0
  let c0_i32_71_r0 : BitVec 32 := 0#32
  let v84_r0 : BitVec 1 := Scalar.cmpi .ne v83_r0 c0_i32_71_r0
  v84_r0

def k0_off15 : Fin 1 → Nat :=
  let true_65_r0 : BitVec 1 := 1#1
  let true_18_r0 : BitVec 1 := 1#1
  let true_13_r0 : BitVec 1 := 1#1
  let true_8_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c8_i32_r0 : BitVec 32 := 8#32
  let v7_r0 : BitVec 1 := Scalar.cmpi .eq v6_r0 c8_i32_r0
  let c0_i32_5_r0 : BitVec 32 := 0#32
  let v8_r0 : BitVec 32 := Scalar.select v7_r0 c0_i32_5_r0 v6_r0
  let c1_i32_7_r0 : BitVec 32 := 1#32
  let v10_r0 : BitVec 32 := Scalar.addi v8_r0 c1_i32_7_r0
  let v11_r0 : BitVec 32 := Scalar.select true_8_r0 v10_r0 v8_r0
  let c8_i32_9_r0 : BitVec 32 := 8#32
  let v12_r0 : BitVec 1 := Scalar.cmpi .eq v11_r0 c8_i32_9_r0
  let c0_i32_10_r0 : BitVec 32 := 0#32
  let v13_r0 : BitVec 32 := Scalar.select v12_r0 c0_i32_10_r0 v11_r0
  let c1_i32_12_r0 : BitVec 32 := 1#32
  let v15_r0 : BitVec 32 := Scalar.addi v13_r0 c1_i32_12_r0
  let v16_r0 : BitVec 32 := Scalar.select true_13_r0 v15_r0 v13_r0
  let c8_i32_14_r0 : BitVec 32 := 8#32
  let v17_r0 : BitVec 1 := Scalar.cmpi .eq v16_r0 c8_i32_14_r0
  let c0_i32_15_r0 : BitVec 32 := 0#32
  let v18_r0 : BitVec 32 := Scalar.select v17_r0 c0_i32_15_r0 v16_r0
  let c1_i32_17_r0 : BitVec 32 := 1#32
  let v20_r0 : BitVec 32 := Scalar.addi v18_r0 c1_i32_17_r0
  let v21_r0 : BitVec 32 := Scalar.select true_18_r0 v20_r0 v18_r0
  let c8_i32_19_r0 : BitVec 32 := 8#32
  let v22_r0 : BitVec 1 := Scalar.cmpi .eq v21_r0 c8_i32_19_r0
  let c0_i32_20_r0 : BitVec 32 := 0#32
  let v23_r0 : BitVec 32 := Scalar.select v22_r0 c0_i32_20_r0 v21_r0
  let c0_i32_21_r0 : BitVec 32 := 0#32
  let v24_r0 : BitVec 32 := Scalar.addi v23_r0 c0_i32_21_r0
  let c0_i32_16_r0 : BitVec 32 := 0#32
  let v19_r0 : BitVec 32 := Scalar.addi v18_r0 c0_i32_16_r0
  let v73_r0 : BitVec 1 := Scalar.cmpi .ne v24_r0 v19_r0
  let v74_r0 : BitVec 1 := Scalar.andi true_65_r0 v73_r0
  let true_61_r0 : BitVec 1 := 1#1
  let c0_i32_11_r0 : BitVec 32 := 0#32
  let v14_r0 : BitVec 32 := Scalar.addi v13_r0 c0_i32_11_r0
  let v66_r0 : BitVec 1 := Scalar.cmpi .ne v19_r0 v14_r0
  let v67_r0 : BitVec 1 := Scalar.andi true_61_r0 v66_r0
  let true_57_r0 : BitVec 1 := 1#1
  let c0_i32_6_r0 : BitVec 32 := 0#32
  let v9_r0 : BitVec 32 := Scalar.addi v8_r0 c0_i32_6_r0
  let v59_r0 : BitVec 1 := Scalar.cmpi .ne v14_r0 v9_r0
  let v60_r0 : BitVec 1 := Scalar.andi true_57_r0 v59_r0
  let true_53_r0 : BitVec 1 := 1#1
  let c0_i32_52_r0 : BitVec 32 := 0#32
  let v52_r0 : BitVec 1 := Scalar.cmpi .ne v9_r0 c0_i32_52_r0
  let v53_r0 : BitVec 1 := Scalar.andi true_53_r0 v52_r0
  let c0_i32_50_r0 : BitVec 32 := 0#32
  let c1_i32_51_r0 : BitVec 32 := 1#32
  let v51_r0 : BitVec 32 := Scalar.addi c0_i32_50_r0 c1_i32_51_r0
  let c1_i32_56_r0 : BitVec 32 := 1#32
  let v57_r0 : BitVec 32 := Scalar.addi v51_r0 c1_i32_56_r0
  let v58_r0 : BitVec 32 := Scalar.select v53_r0 v57_r0 v51_r0
  let c1_i32_60_r0 : BitVec 32 := 1#32
  let v64_r0 : BitVec 32 := Scalar.addi v58_r0 c1_i32_60_r0
  let v65_r0 : BitVec 32 := Scalar.select v60_r0 v64_r0 v58_r0
  let c1_i32_64_r0 : BitVec 32 := 1#32
  let v71_r0 : BitVec 32 := Scalar.addi v65_r0 c1_i32_64_r0
  let v72_r0 : BitVec 32 := Scalar.select v67_r0 v71_r0 v65_r0
  let c1_i32_68_r0 : BitVec 32 := 1#32
  let v78_r0 : BitVec 32 := Scalar.addi v72_r0 c1_i32_68_r0
  let v79_r0 : BitVec 32 := Scalar.select v74_r0 v78_r0 v72_r0
  let c8_i32_143_r0 : BitVec 32 := 8#32
  let v153_r0 : BitVec 32 := Scalar.remui v79_r0 c8_i32_143_r0
  ![v153_r0.toNat]
def k0_off16 : Fin 4 → Nat :=
  let true_65_r0 : BitVec 1 := 1#1
  let true_18_r0 : BitVec 1 := 1#1
  let true_13_r0 : BitVec 1 := 1#1
  let true_8_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c8_i32_r0 : BitVec 32 := 8#32
  let v7_r0 : BitVec 1 := Scalar.cmpi .eq v6_r0 c8_i32_r0
  let c0_i32_5_r0 : BitVec 32 := 0#32
  let v8_r0 : BitVec 32 := Scalar.select v7_r0 c0_i32_5_r0 v6_r0
  let c1_i32_7_r0 : BitVec 32 := 1#32
  let v10_r0 : BitVec 32 := Scalar.addi v8_r0 c1_i32_7_r0
  let v11_r0 : BitVec 32 := Scalar.select true_8_r0 v10_r0 v8_r0
  let c8_i32_9_r0 : BitVec 32 := 8#32
  let v12_r0 : BitVec 1 := Scalar.cmpi .eq v11_r0 c8_i32_9_r0
  let c0_i32_10_r0 : BitVec 32 := 0#32
  let v13_r0 : BitVec 32 := Scalar.select v12_r0 c0_i32_10_r0 v11_r0
  let c1_i32_12_r0 : BitVec 32 := 1#32
  let v15_r0 : BitVec 32 := Scalar.addi v13_r0 c1_i32_12_r0
  let v16_r0 : BitVec 32 := Scalar.select true_13_r0 v15_r0 v13_r0
  let c8_i32_14_r0 : BitVec 32 := 8#32
  let v17_r0 : BitVec 1 := Scalar.cmpi .eq v16_r0 c8_i32_14_r0
  let c0_i32_15_r0 : BitVec 32 := 0#32
  let v18_r0 : BitVec 32 := Scalar.select v17_r0 c0_i32_15_r0 v16_r0
  let c1_i32_17_r0 : BitVec 32 := 1#32
  let v20_r0 : BitVec 32 := Scalar.addi v18_r0 c1_i32_17_r0
  let v21_r0 : BitVec 32 := Scalar.select true_18_r0 v20_r0 v18_r0
  let c8_i32_19_r0 : BitVec 32 := 8#32
  let v22_r0 : BitVec 1 := Scalar.cmpi .eq v21_r0 c8_i32_19_r0
  let c0_i32_20_r0 : BitVec 32 := 0#32
  let v23_r0 : BitVec 32 := Scalar.select v22_r0 c0_i32_20_r0 v21_r0
  let c0_i32_21_r0 : BitVec 32 := 0#32
  let v24_r0 : BitVec 32 := Scalar.addi v23_r0 c0_i32_21_r0
  let c0_i32_16_r0 : BitVec 32 := 0#32
  let v19_r0 : BitVec 32 := Scalar.addi v18_r0 c0_i32_16_r0
  let v73_r0 : BitVec 1 := Scalar.cmpi .ne v24_r0 v19_r0
  let v74_r0 : BitVec 1 := Scalar.andi true_65_r0 v73_r0
  let true_61_r0 : BitVec 1 := 1#1
  let c0_i32_11_r0 : BitVec 32 := 0#32
  let v14_r0 : BitVec 32 := Scalar.addi v13_r0 c0_i32_11_r0
  let v66_r0 : BitVec 1 := Scalar.cmpi .ne v19_r0 v14_r0
  let v67_r0 : BitVec 1 := Scalar.andi true_61_r0 v66_r0
  let true_57_r0 : BitVec 1 := 1#1
  let c0_i32_6_r0 : BitVec 32 := 0#32
  let v9_r0 : BitVec 32 := Scalar.addi v8_r0 c0_i32_6_r0
  let v59_r0 : BitVec 1 := Scalar.cmpi .ne v14_r0 v9_r0
  let v60_r0 : BitVec 1 := Scalar.andi true_57_r0 v59_r0
  let true_53_r0 : BitVec 1 := 1#1
  let c0_i32_52_r0 : BitVec 32 := 0#32
  let v52_r0 : BitVec 1 := Scalar.cmpi .ne v9_r0 c0_i32_52_r0
  let v53_r0 : BitVec 1 := Scalar.andi true_53_r0 v52_r0
  let c0_i32_50_r0 : BitVec 32 := 0#32
  let c1_i32_51_r0 : BitVec 32 := 1#32
  let v51_r0 : BitVec 32 := Scalar.addi c0_i32_50_r0 c1_i32_51_r0
  let c1_i32_56_r0 : BitVec 32 := 1#32
  let v57_r0 : BitVec 32 := Scalar.addi v51_r0 c1_i32_56_r0
  let v58_r0 : BitVec 32 := Scalar.select v53_r0 v57_r0 v51_r0
  let c1_i32_60_r0 : BitVec 32 := 1#32
  let v64_r0 : BitVec 32 := Scalar.addi v58_r0 c1_i32_60_r0
  let v65_r0 : BitVec 32 := Scalar.select v60_r0 v64_r0 v58_r0
  let c1_i32_64_r0 : BitVec 32 := 1#32
  let v71_r0 : BitVec 32 := Scalar.addi v65_r0 c1_i32_64_r0
  let v72_r0 : BitVec 32 := Scalar.select v67_r0 v71_r0 v65_r0
  let c1_i32_68_r0 : BitVec 32 := 1#32
  let v78_r0 : BitVec 32 := Scalar.addi v72_r0 c1_i32_68_r0
  let v79_r0 : BitVec 32 := Scalar.select v74_r0 v78_r0 v72_r0
  let c8_i32_143_r0 : BitVec 32 := 8#32
  let v153_r0 : BitVec 32 := Scalar.remui v79_r0 c8_i32_143_r0
  let c0_i32_145_r0 : BitVec 32 := 0#32
  let c0_i32_146_r0 : BitVec 32 := 0#32
  let c0_i32_147_r0 : BitVec 32 := 0#32
  ![v153_r0.toNat, 0, 0, 0]
def k0_off17 : Fin 3 → Nat :=
  let c8_i32_144_r0 : BitVec 32 := 8#32
  let true_23_r0 : BitVec 1 := 1#1
  let true_18_r0 : BitVec 1 := 1#1
  let true_13_r0 : BitVec 1 := 1#1
  let true_8_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c8_i32_r0 : BitVec 32 := 8#32
  let v7_r0 : BitVec 1 := Scalar.cmpi .eq v6_r0 c8_i32_r0
  let c0_i32_5_r0 : BitVec 32 := 0#32
  let v8_r0 : BitVec 32 := Scalar.select v7_r0 c0_i32_5_r0 v6_r0
  let c1_i32_7_r0 : BitVec 32 := 1#32
  let v10_r0 : BitVec 32 := Scalar.addi v8_r0 c1_i32_7_r0
  let v11_r0 : BitVec 32 := Scalar.select true_8_r0 v10_r0 v8_r0
  let c8_i32_9_r0 : BitVec 32 := 8#32
  let v12_r0 : BitVec 1 := Scalar.cmpi .eq v11_r0 c8_i32_9_r0
  let c0_i32_10_r0 : BitVec 32 := 0#32
  let v13_r0 : BitVec 32 := Scalar.select v12_r0 c0_i32_10_r0 v11_r0
  let c1_i32_12_r0 : BitVec 32 := 1#32
  let v15_r0 : BitVec 32 := Scalar.addi v13_r0 c1_i32_12_r0
  let v16_r0 : BitVec 32 := Scalar.select true_13_r0 v15_r0 v13_r0
  let c8_i32_14_r0 : BitVec 32 := 8#32
  let v17_r0 : BitVec 1 := Scalar.cmpi .eq v16_r0 c8_i32_14_r0
  let c0_i32_15_r0 : BitVec 32 := 0#32
  let v18_r0 : BitVec 32 := Scalar.select v17_r0 c0_i32_15_r0 v16_r0
  let c1_i32_17_r0 : BitVec 32 := 1#32
  let v20_r0 : BitVec 32 := Scalar.addi v18_r0 c1_i32_17_r0
  let v21_r0 : BitVec 32 := Scalar.select true_18_r0 v20_r0 v18_r0
  let c8_i32_19_r0 : BitVec 32 := 8#32
  let v22_r0 : BitVec 1 := Scalar.cmpi .eq v21_r0 c8_i32_19_r0
  let c0_i32_20_r0 : BitVec 32 := 0#32
  let v23_r0 : BitVec 32 := Scalar.select v22_r0 c0_i32_20_r0 v21_r0
  let c1_i32_22_r0 : BitVec 32 := 1#32
  let v25_r0 : BitVec 32 := Scalar.addi v23_r0 c1_i32_22_r0
  let v26_r0 : BitVec 32 := Scalar.select true_23_r0 v25_r0 v23_r0
  let c8_i32_24_r0 : BitVec 32 := 8#32
  let v27_r0 : BitVec 1 := Scalar.cmpi .eq v26_r0 c8_i32_24_r0
  let c0_i32_25_r0 : BitVec 32 := 0#32
  let v28_r0 : BitVec 32 := Scalar.select v27_r0 c0_i32_25_r0 v26_r0
  let c0_i32_26_r0 : BitVec 32 := 0#32
  let v29_r0 : BitVec 32 := Scalar.addi v28_r0 c0_i32_26_r0
  let v154_r0 : BitVec 32 := Scalar.muli c8_i32_144_r0 v29_r0
  let c0_i32_148_r0 : BitVec 32 := 0#32
  let c0_i32_149_r0 : BitVec 32 := 0#32
  ![v154_r0.toNat, 0, 0]
def k0_cond6 : BitVec 1 :=
  let true_73_r0 : BitVec 1 := 1#1
  let true_28_r0 : BitVec 1 := 1#1
  let true_23_r0 : BitVec 1 := 1#1
  let true_18_r0 : BitVec 1 := 1#1
  let true_13_r0 : BitVec 1 := 1#1
  let true_8_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c8_i32_r0 : BitVec 32 := 8#32
  let v7_r0 : BitVec 1 := Scalar.cmpi .eq v6_r0 c8_i32_r0
  let c0_i32_5_r0 : BitVec 32 := 0#32
  let v8_r0 : BitVec 32 := Scalar.select v7_r0 c0_i32_5_r0 v6_r0
  let c1_i32_7_r0 : BitVec 32 := 1#32
  let v10_r0 : BitVec 32 := Scalar.addi v8_r0 c1_i32_7_r0
  let v11_r0 : BitVec 32 := Scalar.select true_8_r0 v10_r0 v8_r0
  let c8_i32_9_r0 : BitVec 32 := 8#32
  let v12_r0 : BitVec 1 := Scalar.cmpi .eq v11_r0 c8_i32_9_r0
  let c0_i32_10_r0 : BitVec 32 := 0#32
  let v13_r0 : BitVec 32 := Scalar.select v12_r0 c0_i32_10_r0 v11_r0
  let c1_i32_12_r0 : BitVec 32 := 1#32
  let v15_r0 : BitVec 32 := Scalar.addi v13_r0 c1_i32_12_r0
  let v16_r0 : BitVec 32 := Scalar.select true_13_r0 v15_r0 v13_r0
  let c8_i32_14_r0 : BitVec 32 := 8#32
  let v17_r0 : BitVec 1 := Scalar.cmpi .eq v16_r0 c8_i32_14_r0
  let c0_i32_15_r0 : BitVec 32 := 0#32
  let v18_r0 : BitVec 32 := Scalar.select v17_r0 c0_i32_15_r0 v16_r0
  let c1_i32_17_r0 : BitVec 32 := 1#32
  let v20_r0 : BitVec 32 := Scalar.addi v18_r0 c1_i32_17_r0
  let v21_r0 : BitVec 32 := Scalar.select true_18_r0 v20_r0 v18_r0
  let c8_i32_19_r0 : BitVec 32 := 8#32
  let v22_r0 : BitVec 1 := Scalar.cmpi .eq v21_r0 c8_i32_19_r0
  let c0_i32_20_r0 : BitVec 32 := 0#32
  let v23_r0 : BitVec 32 := Scalar.select v22_r0 c0_i32_20_r0 v21_r0
  let c1_i32_22_r0 : BitVec 32 := 1#32
  let v25_r0 : BitVec 32 := Scalar.addi v23_r0 c1_i32_22_r0
  let v26_r0 : BitVec 32 := Scalar.select true_23_r0 v25_r0 v23_r0
  let c8_i32_24_r0 : BitVec 32 := 8#32
  let v27_r0 : BitVec 1 := Scalar.cmpi .eq v26_r0 c8_i32_24_r0
  let c0_i32_25_r0 : BitVec 32 := 0#32
  let v28_r0 : BitVec 32 := Scalar.select v27_r0 c0_i32_25_r0 v26_r0
  let c1_i32_27_r0 : BitVec 32 := 1#32
  let v30_r0 : BitVec 32 := Scalar.addi v28_r0 c1_i32_27_r0
  let v31_r0 : BitVec 32 := Scalar.select true_28_r0 v30_r0 v28_r0
  let c8_i32_29_r0 : BitVec 32 := 8#32
  let v32_r0 : BitVec 1 := Scalar.cmpi .eq v31_r0 c8_i32_29_r0
  let c0_i32_30_r0 : BitVec 32 := 0#32
  let v33_r0 : BitVec 32 := Scalar.select v32_r0 c0_i32_30_r0 v31_r0
  let c0_i32_31_r0 : BitVec 32 := 0#32
  let v34_r0 : BitVec 32 := Scalar.addi v33_r0 c0_i32_31_r0
  let c0_i32_26_r0 : BitVec 32 := 0#32
  let v29_r0 : BitVec 32 := Scalar.addi v28_r0 c0_i32_26_r0
  let v87_r0 : BitVec 1 := Scalar.cmpi .ne v34_r0 v29_r0
  let v88_r0 : BitVec 1 := Scalar.andi true_73_r0 v87_r0
  let true_74_r0 : BitVec 1 := 1#1
  let v89_r0 : BitVec 1 := Scalar.andi v88_r0 true_74_r0
  let v90_r0 : BitVec 32 := Scalar.extui v89_r0
  let c0_i32_75_r0 : BitVec 32 := 0#32
  let v91_r0 : BitVec 1 := Scalar.cmpi .ne v90_r0 c0_i32_75_r0
  v91_r0

def k0_off18 : Fin 1 → Nat :=
  let true_69_r0 : BitVec 1 := 1#1
  let true_23_r0 : BitVec 1 := 1#1
  let true_18_r0 : BitVec 1 := 1#1
  let true_13_r0 : BitVec 1 := 1#1
  let true_8_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c8_i32_r0 : BitVec 32 := 8#32
  let v7_r0 : BitVec 1 := Scalar.cmpi .eq v6_r0 c8_i32_r0
  let c0_i32_5_r0 : BitVec 32 := 0#32
  let v8_r0 : BitVec 32 := Scalar.select v7_r0 c0_i32_5_r0 v6_r0
  let c1_i32_7_r0 : BitVec 32 := 1#32
  let v10_r0 : BitVec 32 := Scalar.addi v8_r0 c1_i32_7_r0
  let v11_r0 : BitVec 32 := Scalar.select true_8_r0 v10_r0 v8_r0
  let c8_i32_9_r0 : BitVec 32 := 8#32
  let v12_r0 : BitVec 1 := Scalar.cmpi .eq v11_r0 c8_i32_9_r0
  let c0_i32_10_r0 : BitVec 32 := 0#32
  let v13_r0 : BitVec 32 := Scalar.select v12_r0 c0_i32_10_r0 v11_r0
  let c1_i32_12_r0 : BitVec 32 := 1#32
  let v15_r0 : BitVec 32 := Scalar.addi v13_r0 c1_i32_12_r0
  let v16_r0 : BitVec 32 := Scalar.select true_13_r0 v15_r0 v13_r0
  let c8_i32_14_r0 : BitVec 32 := 8#32
  let v17_r0 : BitVec 1 := Scalar.cmpi .eq v16_r0 c8_i32_14_r0
  let c0_i32_15_r0 : BitVec 32 := 0#32
  let v18_r0 : BitVec 32 := Scalar.select v17_r0 c0_i32_15_r0 v16_r0
  let c1_i32_17_r0 : BitVec 32 := 1#32
  let v20_r0 : BitVec 32 := Scalar.addi v18_r0 c1_i32_17_r0
  let v21_r0 : BitVec 32 := Scalar.select true_18_r0 v20_r0 v18_r0
  let c8_i32_19_r0 : BitVec 32 := 8#32
  let v22_r0 : BitVec 1 := Scalar.cmpi .eq v21_r0 c8_i32_19_r0
  let c0_i32_20_r0 : BitVec 32 := 0#32
  let v23_r0 : BitVec 32 := Scalar.select v22_r0 c0_i32_20_r0 v21_r0
  let c1_i32_22_r0 : BitVec 32 := 1#32
  let v25_r0 : BitVec 32 := Scalar.addi v23_r0 c1_i32_22_r0
  let v26_r0 : BitVec 32 := Scalar.select true_23_r0 v25_r0 v23_r0
  let c8_i32_24_r0 : BitVec 32 := 8#32
  let v27_r0 : BitVec 1 := Scalar.cmpi .eq v26_r0 c8_i32_24_r0
  let c0_i32_25_r0 : BitVec 32 := 0#32
  let v28_r0 : BitVec 32 := Scalar.select v27_r0 c0_i32_25_r0 v26_r0
  let c0_i32_26_r0 : BitVec 32 := 0#32
  let v29_r0 : BitVec 32 := Scalar.addi v28_r0 c0_i32_26_r0
  let c0_i32_21_r0 : BitVec 32 := 0#32
  let v24_r0 : BitVec 32 := Scalar.addi v23_r0 c0_i32_21_r0
  let v80_r0 : BitVec 1 := Scalar.cmpi .ne v29_r0 v24_r0
  let v81_r0 : BitVec 1 := Scalar.andi true_69_r0 v80_r0
  let true_65_r0 : BitVec 1 := 1#1
  let c0_i32_16_r0 : BitVec 32 := 0#32
  let v19_r0 : BitVec 32 := Scalar.addi v18_r0 c0_i32_16_r0
  let v73_r0 : BitVec 1 := Scalar.cmpi .ne v24_r0 v19_r0
  let v74_r0 : BitVec 1 := Scalar.andi true_65_r0 v73_r0
  let true_61_r0 : BitVec 1 := 1#1
  let c0_i32_11_r0 : BitVec 32 := 0#32
  let v14_r0 : BitVec 32 := Scalar.addi v13_r0 c0_i32_11_r0
  let v66_r0 : BitVec 1 := Scalar.cmpi .ne v19_r0 v14_r0
  let v67_r0 : BitVec 1 := Scalar.andi true_61_r0 v66_r0
  let true_57_r0 : BitVec 1 := 1#1
  let c0_i32_6_r0 : BitVec 32 := 0#32
  let v9_r0 : BitVec 32 := Scalar.addi v8_r0 c0_i32_6_r0
  let v59_r0 : BitVec 1 := Scalar.cmpi .ne v14_r0 v9_r0
  let v60_r0 : BitVec 1 := Scalar.andi true_57_r0 v59_r0
  let true_53_r0 : BitVec 1 := 1#1
  let c0_i32_52_r0 : BitVec 32 := 0#32
  let v52_r0 : BitVec 1 := Scalar.cmpi .ne v9_r0 c0_i32_52_r0
  let v53_r0 : BitVec 1 := Scalar.andi true_53_r0 v52_r0
  let c0_i32_50_r0 : BitVec 32 := 0#32
  let c1_i32_51_r0 : BitVec 32 := 1#32
  let v51_r0 : BitVec 32 := Scalar.addi c0_i32_50_r0 c1_i32_51_r0
  let c1_i32_56_r0 : BitVec 32 := 1#32
  let v57_r0 : BitVec 32 := Scalar.addi v51_r0 c1_i32_56_r0
  let v58_r0 : BitVec 32 := Scalar.select v53_r0 v57_r0 v51_r0
  let c1_i32_60_r0 : BitVec 32 := 1#32
  let v64_r0 : BitVec 32 := Scalar.addi v58_r0 c1_i32_60_r0
  let v65_r0 : BitVec 32 := Scalar.select v60_r0 v64_r0 v58_r0
  let c1_i32_64_r0 : BitVec 32 := 1#32
  let v71_r0 : BitVec 32 := Scalar.addi v65_r0 c1_i32_64_r0
  let v72_r0 : BitVec 32 := Scalar.select v67_r0 v71_r0 v65_r0
  let c1_i32_68_r0 : BitVec 32 := 1#32
  let v78_r0 : BitVec 32 := Scalar.addi v72_r0 c1_i32_68_r0
  let v79_r0 : BitVec 32 := Scalar.select v74_r0 v78_r0 v72_r0
  let c1_i32_72_r0 : BitVec 32 := 1#32
  let v85_r0 : BitVec 32 := Scalar.addi v79_r0 c1_i32_72_r0
  let v86_r0 : BitVec 32 := Scalar.select v81_r0 v85_r0 v79_r0
  let c8_i32_143_r0 : BitVec 32 := 8#32
  let v153_r0 : BitVec 32 := Scalar.remui v86_r0 c8_i32_143_r0
  ![v153_r0.toNat]
def k0_off19 : Fin 4 → Nat :=
  let true_69_r0 : BitVec 1 := 1#1
  let true_23_r0 : BitVec 1 := 1#1
  let true_18_r0 : BitVec 1 := 1#1
  let true_13_r0 : BitVec 1 := 1#1
  let true_8_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c8_i32_r0 : BitVec 32 := 8#32
  let v7_r0 : BitVec 1 := Scalar.cmpi .eq v6_r0 c8_i32_r0
  let c0_i32_5_r0 : BitVec 32 := 0#32
  let v8_r0 : BitVec 32 := Scalar.select v7_r0 c0_i32_5_r0 v6_r0
  let c1_i32_7_r0 : BitVec 32 := 1#32
  let v10_r0 : BitVec 32 := Scalar.addi v8_r0 c1_i32_7_r0
  let v11_r0 : BitVec 32 := Scalar.select true_8_r0 v10_r0 v8_r0
  let c8_i32_9_r0 : BitVec 32 := 8#32
  let v12_r0 : BitVec 1 := Scalar.cmpi .eq v11_r0 c8_i32_9_r0
  let c0_i32_10_r0 : BitVec 32 := 0#32
  let v13_r0 : BitVec 32 := Scalar.select v12_r0 c0_i32_10_r0 v11_r0
  let c1_i32_12_r0 : BitVec 32 := 1#32
  let v15_r0 : BitVec 32 := Scalar.addi v13_r0 c1_i32_12_r0
  let v16_r0 : BitVec 32 := Scalar.select true_13_r0 v15_r0 v13_r0
  let c8_i32_14_r0 : BitVec 32 := 8#32
  let v17_r0 : BitVec 1 := Scalar.cmpi .eq v16_r0 c8_i32_14_r0
  let c0_i32_15_r0 : BitVec 32 := 0#32
  let v18_r0 : BitVec 32 := Scalar.select v17_r0 c0_i32_15_r0 v16_r0
  let c1_i32_17_r0 : BitVec 32 := 1#32
  let v20_r0 : BitVec 32 := Scalar.addi v18_r0 c1_i32_17_r0
  let v21_r0 : BitVec 32 := Scalar.select true_18_r0 v20_r0 v18_r0
  let c8_i32_19_r0 : BitVec 32 := 8#32
  let v22_r0 : BitVec 1 := Scalar.cmpi .eq v21_r0 c8_i32_19_r0
  let c0_i32_20_r0 : BitVec 32 := 0#32
  let v23_r0 : BitVec 32 := Scalar.select v22_r0 c0_i32_20_r0 v21_r0
  let c1_i32_22_r0 : BitVec 32 := 1#32
  let v25_r0 : BitVec 32 := Scalar.addi v23_r0 c1_i32_22_r0
  let v26_r0 : BitVec 32 := Scalar.select true_23_r0 v25_r0 v23_r0
  let c8_i32_24_r0 : BitVec 32 := 8#32
  let v27_r0 : BitVec 1 := Scalar.cmpi .eq v26_r0 c8_i32_24_r0
  let c0_i32_25_r0 : BitVec 32 := 0#32
  let v28_r0 : BitVec 32 := Scalar.select v27_r0 c0_i32_25_r0 v26_r0
  let c0_i32_26_r0 : BitVec 32 := 0#32
  let v29_r0 : BitVec 32 := Scalar.addi v28_r0 c0_i32_26_r0
  let c0_i32_21_r0 : BitVec 32 := 0#32
  let v24_r0 : BitVec 32 := Scalar.addi v23_r0 c0_i32_21_r0
  let v80_r0 : BitVec 1 := Scalar.cmpi .ne v29_r0 v24_r0
  let v81_r0 : BitVec 1 := Scalar.andi true_69_r0 v80_r0
  let true_65_r0 : BitVec 1 := 1#1
  let c0_i32_16_r0 : BitVec 32 := 0#32
  let v19_r0 : BitVec 32 := Scalar.addi v18_r0 c0_i32_16_r0
  let v73_r0 : BitVec 1 := Scalar.cmpi .ne v24_r0 v19_r0
  let v74_r0 : BitVec 1 := Scalar.andi true_65_r0 v73_r0
  let true_61_r0 : BitVec 1 := 1#1
  let c0_i32_11_r0 : BitVec 32 := 0#32
  let v14_r0 : BitVec 32 := Scalar.addi v13_r0 c0_i32_11_r0
  let v66_r0 : BitVec 1 := Scalar.cmpi .ne v19_r0 v14_r0
  let v67_r0 : BitVec 1 := Scalar.andi true_61_r0 v66_r0
  let true_57_r0 : BitVec 1 := 1#1
  let c0_i32_6_r0 : BitVec 32 := 0#32
  let v9_r0 : BitVec 32 := Scalar.addi v8_r0 c0_i32_6_r0
  let v59_r0 : BitVec 1 := Scalar.cmpi .ne v14_r0 v9_r0
  let v60_r0 : BitVec 1 := Scalar.andi true_57_r0 v59_r0
  let true_53_r0 : BitVec 1 := 1#1
  let c0_i32_52_r0 : BitVec 32 := 0#32
  let v52_r0 : BitVec 1 := Scalar.cmpi .ne v9_r0 c0_i32_52_r0
  let v53_r0 : BitVec 1 := Scalar.andi true_53_r0 v52_r0
  let c0_i32_50_r0 : BitVec 32 := 0#32
  let c1_i32_51_r0 : BitVec 32 := 1#32
  let v51_r0 : BitVec 32 := Scalar.addi c0_i32_50_r0 c1_i32_51_r0
  let c1_i32_56_r0 : BitVec 32 := 1#32
  let v57_r0 : BitVec 32 := Scalar.addi v51_r0 c1_i32_56_r0
  let v58_r0 : BitVec 32 := Scalar.select v53_r0 v57_r0 v51_r0
  let c1_i32_60_r0 : BitVec 32 := 1#32
  let v64_r0 : BitVec 32 := Scalar.addi v58_r0 c1_i32_60_r0
  let v65_r0 : BitVec 32 := Scalar.select v60_r0 v64_r0 v58_r0
  let c1_i32_64_r0 : BitVec 32 := 1#32
  let v71_r0 : BitVec 32 := Scalar.addi v65_r0 c1_i32_64_r0
  let v72_r0 : BitVec 32 := Scalar.select v67_r0 v71_r0 v65_r0
  let c1_i32_68_r0 : BitVec 32 := 1#32
  let v78_r0 : BitVec 32 := Scalar.addi v72_r0 c1_i32_68_r0
  let v79_r0 : BitVec 32 := Scalar.select v74_r0 v78_r0 v72_r0
  let c1_i32_72_r0 : BitVec 32 := 1#32
  let v85_r0 : BitVec 32 := Scalar.addi v79_r0 c1_i32_72_r0
  let v86_r0 : BitVec 32 := Scalar.select v81_r0 v85_r0 v79_r0
  let c8_i32_143_r0 : BitVec 32 := 8#32
  let v153_r0 : BitVec 32 := Scalar.remui v86_r0 c8_i32_143_r0
  let c0_i32_145_r0 : BitVec 32 := 0#32
  let c0_i32_146_r0 : BitVec 32 := 0#32
  let c0_i32_147_r0 : BitVec 32 := 0#32
  ![v153_r0.toNat, 0, 0, 0]
def k0_off20 : Fin 3 → Nat :=
  let c8_i32_144_r0 : BitVec 32 := 8#32
  let true_28_r0 : BitVec 1 := 1#1
  let true_23_r0 : BitVec 1 := 1#1
  let true_18_r0 : BitVec 1 := 1#1
  let true_13_r0 : BitVec 1 := 1#1
  let true_8_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c8_i32_r0 : BitVec 32 := 8#32
  let v7_r0 : BitVec 1 := Scalar.cmpi .eq v6_r0 c8_i32_r0
  let c0_i32_5_r0 : BitVec 32 := 0#32
  let v8_r0 : BitVec 32 := Scalar.select v7_r0 c0_i32_5_r0 v6_r0
  let c1_i32_7_r0 : BitVec 32 := 1#32
  let v10_r0 : BitVec 32 := Scalar.addi v8_r0 c1_i32_7_r0
  let v11_r0 : BitVec 32 := Scalar.select true_8_r0 v10_r0 v8_r0
  let c8_i32_9_r0 : BitVec 32 := 8#32
  let v12_r0 : BitVec 1 := Scalar.cmpi .eq v11_r0 c8_i32_9_r0
  let c0_i32_10_r0 : BitVec 32 := 0#32
  let v13_r0 : BitVec 32 := Scalar.select v12_r0 c0_i32_10_r0 v11_r0
  let c1_i32_12_r0 : BitVec 32 := 1#32
  let v15_r0 : BitVec 32 := Scalar.addi v13_r0 c1_i32_12_r0
  let v16_r0 : BitVec 32 := Scalar.select true_13_r0 v15_r0 v13_r0
  let c8_i32_14_r0 : BitVec 32 := 8#32
  let v17_r0 : BitVec 1 := Scalar.cmpi .eq v16_r0 c8_i32_14_r0
  let c0_i32_15_r0 : BitVec 32 := 0#32
  let v18_r0 : BitVec 32 := Scalar.select v17_r0 c0_i32_15_r0 v16_r0
  let c1_i32_17_r0 : BitVec 32 := 1#32
  let v20_r0 : BitVec 32 := Scalar.addi v18_r0 c1_i32_17_r0
  let v21_r0 : BitVec 32 := Scalar.select true_18_r0 v20_r0 v18_r0
  let c8_i32_19_r0 : BitVec 32 := 8#32
  let v22_r0 : BitVec 1 := Scalar.cmpi .eq v21_r0 c8_i32_19_r0
  let c0_i32_20_r0 : BitVec 32 := 0#32
  let v23_r0 : BitVec 32 := Scalar.select v22_r0 c0_i32_20_r0 v21_r0
  let c1_i32_22_r0 : BitVec 32 := 1#32
  let v25_r0 : BitVec 32 := Scalar.addi v23_r0 c1_i32_22_r0
  let v26_r0 : BitVec 32 := Scalar.select true_23_r0 v25_r0 v23_r0
  let c8_i32_24_r0 : BitVec 32 := 8#32
  let v27_r0 : BitVec 1 := Scalar.cmpi .eq v26_r0 c8_i32_24_r0
  let c0_i32_25_r0 : BitVec 32 := 0#32
  let v28_r0 : BitVec 32 := Scalar.select v27_r0 c0_i32_25_r0 v26_r0
  let c1_i32_27_r0 : BitVec 32 := 1#32
  let v30_r0 : BitVec 32 := Scalar.addi v28_r0 c1_i32_27_r0
  let v31_r0 : BitVec 32 := Scalar.select true_28_r0 v30_r0 v28_r0
  let c8_i32_29_r0 : BitVec 32 := 8#32
  let v32_r0 : BitVec 1 := Scalar.cmpi .eq v31_r0 c8_i32_29_r0
  let c0_i32_30_r0 : BitVec 32 := 0#32
  let v33_r0 : BitVec 32 := Scalar.select v32_r0 c0_i32_30_r0 v31_r0
  let c0_i32_31_r0 : BitVec 32 := 0#32
  let v34_r0 : BitVec 32 := Scalar.addi v33_r0 c0_i32_31_r0
  let v154_r0 : BitVec 32 := Scalar.muli c8_i32_144_r0 v34_r0
  let c0_i32_148_r0 : BitVec 32 := 0#32
  let c0_i32_149_r0 : BitVec 32 := 0#32
  ![v154_r0.toNat, 0, 0]
@[reducible] def k0_t1_loop : Scf.Loop 32 :=
  let c0_i32_81_r0 : BitVec 32 := 0#32
  let c8_i32_82_r0 : BitVec 32 := 8#32
  let v94_r0 : BitVec 32 := Scalar.addi c0_i32_81_r0 c8_i32_82_r0
  let c1_i32_83_r0 : BitVec 32 := 1#32
  ⟨c0_i32_81_r0, v94_r0, c1_i32_83_r0⟩
def k0_off21 (arg3_r0 : BitVec 32) : Fin 1 → Nat :=
  let c8_i32_249_r0 : BitVec 32 := 8#32
  let v292_r0 : BitVec 32 := Scalar.remui arg3_r0 c8_i32_249_r0
  ![v292_r0.toNat]
def k0_cond7 (k0_t1 : Fin k0_t1_loop.trips) (arg7_r0 : BitVec 32) : BitVec 1 :=
  let true_177_r0 : BitVec 1 := 1#1
  let true_172_r0 : BitVec 1 := 1#1
  let true_167_r0 : BitVec 1 := 1#1
  let true_162_r0 : BitVec 1 := 1#1
  let true_157_r0 : BitVec 1 := 1#1
  let true_152_r0 : BitVec 1 := 1#1
  let c1_i32_151_r0 : BitVec 32 := 1#32
  let v161_r0 : BitVec 32 := Scalar.addi arg7_r0 c1_i32_151_r0
  let v162_r0 : BitVec 32 := Scalar.select true_152_r0 v161_r0 arg7_r0
  let c8_i32_153_r0 : BitVec 32 := 8#32
  let v163_r0 : BitVec 1 := Scalar.cmpi .eq v162_r0 c8_i32_153_r0
  let c0_i32_154_r0 : BitVec 32 := 0#32
  let v164_r0 : BitVec 32 := Scalar.select v163_r0 c0_i32_154_r0 v162_r0
  let c1_i32_156_r0 : BitVec 32 := 1#32
  let v166_r0 : BitVec 32 := Scalar.addi v164_r0 c1_i32_156_r0
  let v167_r0 : BitVec 32 := Scalar.select true_157_r0 v166_r0 v164_r0
  let c8_i32_158_r0 : BitVec 32 := 8#32
  let v168_r0 : BitVec 1 := Scalar.cmpi .eq v167_r0 c8_i32_158_r0
  let c0_i32_159_r0 : BitVec 32 := 0#32
  let v169_r0 : BitVec 32 := Scalar.select v168_r0 c0_i32_159_r0 v167_r0
  let c1_i32_161_r0 : BitVec 32 := 1#32
  let v171_r0 : BitVec 32 := Scalar.addi v169_r0 c1_i32_161_r0
  let v172_r0 : BitVec 32 := Scalar.select true_162_r0 v171_r0 v169_r0
  let c8_i32_163_r0 : BitVec 32 := 8#32
  let v173_r0 : BitVec 1 := Scalar.cmpi .eq v172_r0 c8_i32_163_r0
  let c0_i32_164_r0 : BitVec 32 := 0#32
  let v174_r0 : BitVec 32 := Scalar.select v173_r0 c0_i32_164_r0 v172_r0
  let c1_i32_166_r0 : BitVec 32 := 1#32
  let v176_r0 : BitVec 32 := Scalar.addi v174_r0 c1_i32_166_r0
  let v177_r0 : BitVec 32 := Scalar.select true_167_r0 v176_r0 v174_r0
  let c8_i32_168_r0 : BitVec 32 := 8#32
  let v178_r0 : BitVec 1 := Scalar.cmpi .eq v177_r0 c8_i32_168_r0
  let c0_i32_169_r0 : BitVec 32 := 0#32
  let v179_r0 : BitVec 32 := Scalar.select v178_r0 c0_i32_169_r0 v177_r0
  let c1_i32_171_r0 : BitVec 32 := 1#32
  let v181_r0 : BitVec 32 := Scalar.addi v179_r0 c1_i32_171_r0
  let v182_r0 : BitVec 32 := Scalar.select true_172_r0 v181_r0 v179_r0
  let c8_i32_173_r0 : BitVec 32 := 8#32
  let v183_r0 : BitVec 1 := Scalar.cmpi .eq v182_r0 c8_i32_173_r0
  let c0_i32_174_r0 : BitVec 32 := 0#32
  let v184_r0 : BitVec 32 := Scalar.select v183_r0 c0_i32_174_r0 v182_r0
  let c1_i32_176_r0 : BitVec 32 := 1#32
  let v186_r0 : BitVec 32 := Scalar.addi v184_r0 c1_i32_176_r0
  let v187_r0 : BitVec 32 := Scalar.select true_177_r0 v186_r0 v184_r0
  let c8_i32_178_r0 : BitVec 32 := 8#32
  let v188_r0 : BitVec 1 := Scalar.cmpi .eq v187_r0 c8_i32_178_r0
  let c0_i32_179_r0 : BitVec 32 := 0#32
  let v189_r0 : BitVec 32 := Scalar.select v188_r0 c0_i32_179_r0 v187_r0
  let c0_i32_180_r0 : BitVec 32 := 0#32
  let v190_r0 : BitVec 32 := Scalar.addi v189_r0 c0_i32_180_r0
  let true_182_r0 : BitVec 1 := 1#1
  let c1_i32_181_r0 : BitVec 32 := 1#32
  let v191_r0 : BitVec 32 := Scalar.addi v189_r0 c1_i32_181_r0
  let v192_r0 : BitVec 32 := Scalar.select true_182_r0 v191_r0 v189_r0
  let c8_i32_183_r0 : BitVec 32 := 8#32
  let v193_r0 : BitVec 1 := Scalar.cmpi .eq v192_r0 c8_i32_183_r0
  let c0_i32_184_r0 : BitVec 32 := 0#32
  let v194_r0 : BitVec 32 := Scalar.select v193_r0 c0_i32_184_r0 v192_r0
  let c0_i32_185_r0 : BitVec 32 := 0#32
  let v195_r0 : BitVec 32 := Scalar.addi v194_r0 c0_i32_185_r0
  let v201_r0 : BitVec 1 := Scalar.cmpi .ne v190_r0 v195_r0
  let c0_i32_81_r0 : BitVec 32 := 0#32
  let c1_i32_83_r0 : BitVec 32 := 1#32
  let arg2_r0 : BitVec 32 := Scf.iv c0_i32_81_r0 c1_i32_83_r0 k0_t1
  let c1_i32_191_r0 : BitVec 32 := 1#32
  let v202_r0 : BitVec 1 := Scalar.cmpi .sge arg2_r0 c1_i32_191_r0
  let true_192_r0 : BitVec 1 := 1#1
  let v203_r0 : BitVec 1 := Scalar.xori v202_r0 true_192_r0
  let v204_r0 : BitVec 1 := Scalar.andi v201_r0 v203_r0
  let true_193_r0 : BitVec 1 := 1#1
  let v205_r0 : BitVec 1 := Scalar.andi v204_r0 true_193_r0
  let v206_r0 : BitVec 32 := Scalar.extui v205_r0
  let c0_i32_194_r0 : BitVec 32 := 0#32
  let v207_r0 : BitVec 1 := Scalar.cmpi .ne v206_r0 c0_i32_194_r0
  v207_r0

def k0_off22 (arg3_r0 : BitVec 32) : Fin 4 → Nat :=
  let c8_i32_249_r0 : BitVec 32 := 8#32
  let v292_r0 : BitVec 32 := Scalar.remui arg3_r0 c8_i32_249_r0
  let c0_i32_251_r0 : BitVec 32 := 0#32
  let c0_i32_252_r0 : BitVec 32 := 0#32
  let c0_i32_253_r0 : BitVec 32 := 0#32
  ![v292_r0.toNat, 0, 0, 0]
def k0_off23 (arg7_r0 : BitVec 32) : Fin 3 → Nat :=
  let c8_i32_250_r0 : BitVec 32 := 8#32
  let true_182_r0 : BitVec 1 := 1#1
  let true_177_r0 : BitVec 1 := 1#1
  let true_172_r0 : BitVec 1 := 1#1
  let true_167_r0 : BitVec 1 := 1#1
  let true_162_r0 : BitVec 1 := 1#1
  let true_157_r0 : BitVec 1 := 1#1
  let true_152_r0 : BitVec 1 := 1#1
  let c1_i32_151_r0 : BitVec 32 := 1#32
  let v161_r0 : BitVec 32 := Scalar.addi arg7_r0 c1_i32_151_r0
  let v162_r0 : BitVec 32 := Scalar.select true_152_r0 v161_r0 arg7_r0
  let c8_i32_153_r0 : BitVec 32 := 8#32
  let v163_r0 : BitVec 1 := Scalar.cmpi .eq v162_r0 c8_i32_153_r0
  let c0_i32_154_r0 : BitVec 32 := 0#32
  let v164_r0 : BitVec 32 := Scalar.select v163_r0 c0_i32_154_r0 v162_r0
  let c1_i32_156_r0 : BitVec 32 := 1#32
  let v166_r0 : BitVec 32 := Scalar.addi v164_r0 c1_i32_156_r0
  let v167_r0 : BitVec 32 := Scalar.select true_157_r0 v166_r0 v164_r0
  let c8_i32_158_r0 : BitVec 32 := 8#32
  let v168_r0 : BitVec 1 := Scalar.cmpi .eq v167_r0 c8_i32_158_r0
  let c0_i32_159_r0 : BitVec 32 := 0#32
  let v169_r0 : BitVec 32 := Scalar.select v168_r0 c0_i32_159_r0 v167_r0
  let c1_i32_161_r0 : BitVec 32 := 1#32
  let v171_r0 : BitVec 32 := Scalar.addi v169_r0 c1_i32_161_r0
  let v172_r0 : BitVec 32 := Scalar.select true_162_r0 v171_r0 v169_r0
  let c8_i32_163_r0 : BitVec 32 := 8#32
  let v173_r0 : BitVec 1 := Scalar.cmpi .eq v172_r0 c8_i32_163_r0
  let c0_i32_164_r0 : BitVec 32 := 0#32
  let v174_r0 : BitVec 32 := Scalar.select v173_r0 c0_i32_164_r0 v172_r0
  let c1_i32_166_r0 : BitVec 32 := 1#32
  let v176_r0 : BitVec 32 := Scalar.addi v174_r0 c1_i32_166_r0
  let v177_r0 : BitVec 32 := Scalar.select true_167_r0 v176_r0 v174_r0
  let c8_i32_168_r0 : BitVec 32 := 8#32
  let v178_r0 : BitVec 1 := Scalar.cmpi .eq v177_r0 c8_i32_168_r0
  let c0_i32_169_r0 : BitVec 32 := 0#32
  let v179_r0 : BitVec 32 := Scalar.select v178_r0 c0_i32_169_r0 v177_r0
  let c1_i32_171_r0 : BitVec 32 := 1#32
  let v181_r0 : BitVec 32 := Scalar.addi v179_r0 c1_i32_171_r0
  let v182_r0 : BitVec 32 := Scalar.select true_172_r0 v181_r0 v179_r0
  let c8_i32_173_r0 : BitVec 32 := 8#32
  let v183_r0 : BitVec 1 := Scalar.cmpi .eq v182_r0 c8_i32_173_r0
  let c0_i32_174_r0 : BitVec 32 := 0#32
  let v184_r0 : BitVec 32 := Scalar.select v183_r0 c0_i32_174_r0 v182_r0
  let c1_i32_176_r0 : BitVec 32 := 1#32
  let v186_r0 : BitVec 32 := Scalar.addi v184_r0 c1_i32_176_r0
  let v187_r0 : BitVec 32 := Scalar.select true_177_r0 v186_r0 v184_r0
  let c8_i32_178_r0 : BitVec 32 := 8#32
  let v188_r0 : BitVec 1 := Scalar.cmpi .eq v187_r0 c8_i32_178_r0
  let c0_i32_179_r0 : BitVec 32 := 0#32
  let v189_r0 : BitVec 32 := Scalar.select v188_r0 c0_i32_179_r0 v187_r0
  let c1_i32_181_r0 : BitVec 32 := 1#32
  let v191_r0 : BitVec 32 := Scalar.addi v189_r0 c1_i32_181_r0
  let v192_r0 : BitVec 32 := Scalar.select true_182_r0 v191_r0 v189_r0
  let c8_i32_183_r0 : BitVec 32 := 8#32
  let v193_r0 : BitVec 1 := Scalar.cmpi .eq v192_r0 c8_i32_183_r0
  let c0_i32_184_r0 : BitVec 32 := 0#32
  let v194_r0 : BitVec 32 := Scalar.select v193_r0 c0_i32_184_r0 v192_r0
  let c0_i32_185_r0 : BitVec 32 := 0#32
  let v195_r0 : BitVec 32 := Scalar.addi v194_r0 c0_i32_185_r0
  let v293_r0 : BitVec 32 := Scalar.muli c8_i32_250_r0 v195_r0
  let c0_i32_254_r0 : BitVec 32 := 0#32
  let c0_i32_255_r0 : BitVec 32 := 0#32
  ![v293_r0.toNat, 0, 0]
def k0_off24 (arg4_r0 : BitVec 32) : Fin 1 → Nat :=
  let c8_i32_250_r0 : BitVec 32 := 8#32
  let v293_r0 : BitVec 32 := Scalar.remui arg4_r0 c8_i32_250_r0
  ![v293_r0.toNat]
def k0_cond8 (k0_t1 : Fin k0_t1_loop.trips) (arg7_r0 : BitVec 32) : BitVec 1 :=
  let c0_i32_145_r0 : BitVec 32 := 0#32
  let v155_r0 : BitVec 32 := Scalar.addi arg7_r0 c0_i32_145_r0
  let true_147_r0 : BitVec 1 := 1#1
  let c1_i32_146_r0 : BitVec 32 := 1#32
  let v156_r0 : BitVec 32 := Scalar.subi arg7_r0 c1_i32_146_r0
  let v157_r0 : BitVec 32 := Scalar.select true_147_r0 v156_r0 arg7_r0
  let c_m1_i32_148_r0 : BitVec 32 := 4294967295#32
  let v158_r0 : BitVec 1 := Scalar.cmpi .eq v157_r0 c_m1_i32_148_r0
  let c7_i32_149_r0 : BitVec 32 := 7#32
  let v159_r0 : BitVec 32 := Scalar.select v158_r0 c7_i32_149_r0 v157_r0
  let c0_i32_150_r0 : BitVec 32 := 0#32
  let v160_r0 : BitVec 32 := Scalar.addi v159_r0 c0_i32_150_r0
  let v215_r0 : BitVec 1 := Scalar.cmpi .ne v155_r0 v160_r0
  let c0_i32_81_r0 : BitVec 32 := 0#32
  let c1_i32_83_r0 : BitVec 32 := 1#32
  let arg2_r0 : BitVec 32 := Scf.iv c0_i32_81_r0 c1_i32_83_r0 k0_t1
  let c0_i32_143_r0 : BitVec 32 := 0#32
  let v153_r0 : BitVec 1 := Scalar.cmpi .eq arg2_r0 c0_i32_143_r0
  let v216_r0 : BitVec 1 := Scalar.ori v215_r0 v153_r0
  let c0_i32_199_r0 : BitVec 32 := 0#32
  let v217_r0 : BitVec 1 := Scalar.cmpi .sge arg2_r0 c0_i32_199_r0
  let v218_r0 : BitVec 1 := Scalar.andi v216_r0 v217_r0
  let v219_r0 : BitVec 32 := Scalar.extui v218_r0
  let c0_i32_200_r0 : BitVec 32 := 0#32
  let v220_r0 : BitVec 1 := Scalar.cmpi .ne v219_r0 c0_i32_200_r0
  v220_r0

def k0_off25 (arg4_r0 : BitVec 32) : Fin 4 → Nat :=
  let c8_i32_250_r0 : BitVec 32 := 8#32
  let v293_r0 : BitVec 32 := Scalar.remui arg4_r0 c8_i32_250_r0
  let c0_i32_251_r0 : BitVec 32 := 0#32
  let c0_i32_252_r0 : BitVec 32 := 0#32
  let c0_i32_253_r0 : BitVec 32 := 0#32
  ![v293_r0.toNat, 0, 0, 0]
def k0_off26 (arg7_r0 : BitVec 32) : Fin 3 → Nat :=
  let c8_i32_249_r0 : BitVec 32 := 8#32
  let c0_i32_145_r0 : BitVec 32 := 0#32
  let v155_r0 : BitVec 32 := Scalar.addi arg7_r0 c0_i32_145_r0
  let v292_r0 : BitVec 32 := Scalar.muli c8_i32_249_r0 v155_r0
  let c0_i32_254_r0 : BitVec 32 := 0#32
  let c0_i32_255_r0 : BitVec 32 := 0#32
  ![v292_r0.toNat, 0, 0]
def k0_off27 (arg4_r0 : BitVec 32) : Fin 4 → Nat :=
  let c8_i32_203_r0 : BitVec 32 := 8#32
  let v227_r0 : BitVec 32 := Scalar.remui arg4_r0 c8_i32_203_r0
  let v229_r0 : Index := Scalar.indexCast v227_r0
  let c0_r0 : Index := 0#32
  let c0_205_r0 : Index := 0#32
  let c0_206_r0 : Index := 0#32
  ![v229_r0.toNat, 0, 0, 0]

def k0_chk2 (arg4_r0 : BitVec 32) : Prop :=
  (∀ a, (k0_off27 arg4_r0) a + S1x8x64x1024.size a ≤ S8x8x64x1024.size a)
theorem k0_off27_inb : ∀ (arg4_r0 : BitVec 32) (k0_hw2 : k0_chk2 arg4_r0), ∀ a, (k0_off27 arg4_r0) a + S1x8x64x1024.size a ≤ S8x8x64x1024.size a := fun arg4_r0 k0_hw2 => k0_hw2

def k0_off28 (arg5_r0 : BitVec 32) : Fin 5 → Nat :=
  let c2_i32_204_r0 : BitVec 32 := 2#32
  let v228_r0 : BitVec 32 := Scalar.remui arg5_r0 c2_i32_204_r0
  let c0_i32_210_r0 : BitVec 32 := 0#32
  let c0_i32_211_r0 : BitVec 32 := 0#32
  let c0_i32_212_r0 : BitVec 32 := 0#32
  let c0_i32_213_r0 : BitVec 32 := 0#32
  ![v228_r0.toNat, 0, 0, 0, 0]

def k0_chk3 (arg5_r0 : BitVec 32) : Prop :=
  (∀ a, (k0_off28 arg5_r0) a + S1x8x3x64x1024.size a ≤ S2x8x3x64x1024.size a)
theorem k0_off28_inb : ∀ (arg5_r0 : BitVec 32) (k0_hw3 : k0_chk3 arg5_r0), ∀ a, (k0_off28 arg5_r0) a + S1x8x3x64x1024.size a ≤ S2x8x3x64x1024.size a := fun arg5_r0 k0_hw3 => k0_hw3

def k0_off29 (arg5_r0 : BitVec 32) : Fin 1 → Nat :=
  let c2_i32_249_r0 : BitVec 32 := 2#32
  let v292_r0 : BitVec 32 := Scalar.remui arg5_r0 c2_i32_249_r0
  ![v292_r0.toNat]
def k0_cond11 (k0_t1 : Fin k0_t1_loop.trips) (arg7_r0 : BitVec 32) : BitVec 1 :=
  let c0_i32_145_r0 : BitVec 32 := 0#32
  let v155_r0 : BitVec 32 := Scalar.addi arg7_r0 c0_i32_145_r0
  let true_152_r0 : BitVec 1 := 1#1
  let c1_i32_151_r0 : BitVec 32 := 1#32
  let v161_r0 : BitVec 32 := Scalar.addi arg7_r0 c1_i32_151_r0
  let v162_r0 : BitVec 32 := Scalar.select true_152_r0 v161_r0 arg7_r0
  let c8_i32_153_r0 : BitVec 32 := 8#32
  let v163_r0 : BitVec 1 := Scalar.cmpi .eq v162_r0 c8_i32_153_r0
  let c0_i32_154_r0 : BitVec 32 := 0#32
  let v164_r0 : BitVec 32 := Scalar.select v163_r0 c0_i32_154_r0 v162_r0
  let c0_i32_155_r0 : BitVec 32 := 0#32
  let v165_r0 : BitVec 32 := Scalar.addi v164_r0 c0_i32_155_r0
  let v263_r0 : BitVec 1 := Scalar.cmpi .ne v155_r0 v165_r0
  let c0_i32_81_r0 : BitVec 32 := 0#32
  let c1_i32_83_r0 : BitVec 32 := 1#32
  let arg2_r0 : BitVec 32 := Scf.iv c0_i32_81_r0 c1_i32_83_r0 k0_t1
  let c7_i32_144_r0 : BitVec 32 := 7#32
  let v154_r0 : BitVec 1 := Scalar.cmpi .eq arg2_r0 c7_i32_144_r0
  let v264_r0 : BitVec 1 := Scalar.ori v263_r0 v154_r0
  let v265_r0 : BitVec 32 := Scalar.extui v264_r0
  let c0_i32_234_r0 : BitVec 32 := 0#32
  let v266_r0 : BitVec 1 := Scalar.cmpi .ne v265_r0 c0_i32_234_r0
  v266_r0

def k0_off30 (arg7_r0 : BitVec 32) : Fin 4 → Nat :=
  let c8_i32_250_r0 : BitVec 32 := 8#32
  let c0_i32_145_r0 : BitVec 32 := 0#32
  let v155_r0 : BitVec 32 := Scalar.addi arg7_r0 c0_i32_145_r0
  let v293_r0 : BitVec 32 := Scalar.muli c8_i32_250_r0 v155_r0
  let c0_i32_251_r0 : BitVec 32 := 0#32
  let c0_i32_252_r0 : BitVec 32 := 0#32
  let c0_i32_253_r0 : BitVec 32 := 0#32
  ![v293_r0.toNat, 0, 0, 0]
def k0_off31 (arg5_r0 : BitVec 32) : Fin 5 → Nat :=
  let c2_i32_249_r0 : BitVec 32 := 2#32
  let v292_r0 : BitVec 32 := Scalar.remui arg5_r0 c2_i32_249_r0
  let c0_i32_254_r0 : BitVec 32 := 0#32
  let c0_i32_255_r0 : BitVec 32 := 0#32
  let c0_i32_256_r0 : BitVec 32 := 0#32
  let c0_i32_257_r0 : BitVec 32 := 0#32
  ![v292_r0.toNat, 0, 0, 0, 0]
def k0_off32 (arg6_r0 : BitVec 32) : Fin 1 → Nat :=
  let c2_i32_249_r0 : BitVec 32 := 2#32
  let v292_r0 : BitVec 32 := Scalar.remui arg6_r0 c2_i32_249_r0
  ![v292_r0.toNat]
def k0_cond13 (k0_t1 : Fin k0_t1_loop.trips) (arg7_r0 : BitVec 32) : BitVec 1 :=
  let c0_i32_145_r0 : BitVec 32 := 0#32
  let v155_r0 : BitVec 32 := Scalar.addi arg7_r0 c0_i32_145_r0
  let true_147_r0 : BitVec 1 := 1#1
  let c1_i32_146_r0 : BitVec 32 := 1#32
  let v156_r0 : BitVec 32 := Scalar.subi arg7_r0 c1_i32_146_r0
  let v157_r0 : BitVec 32 := Scalar.select true_147_r0 v156_r0 arg7_r0
  let c_m1_i32_148_r0 : BitVec 32 := 4294967295#32
  let v158_r0 : BitVec 1 := Scalar.cmpi .eq v157_r0 c_m1_i32_148_r0
  let c7_i32_149_r0 : BitVec 32 := 7#32
  let v159_r0 : BitVec 32 := Scalar.select v158_r0 c7_i32_149_r0 v157_r0
  let c0_i32_150_r0 : BitVec 32 := 0#32
  let v160_r0 : BitVec 32 := Scalar.addi v159_r0 c0_i32_150_r0
  let v276_r0 : BitVec 1 := Scalar.cmpi .ne v155_r0 v160_r0
  let c0_i32_81_r0 : BitVec 32 := 0#32
  let c1_i32_83_r0 : BitVec 32 := 1#32
  let arg2_r0 : BitVec 32 := Scf.iv c0_i32_81_r0 c1_i32_83_r0 k0_t1
  let c0_i32_143_r0 : BitVec 32 := 0#32
  let v153_r0 : BitVec 1 := Scalar.cmpi .eq arg2_r0 c0_i32_143_r0
  let true_240_r0 : BitVec 1 := 1#1
  let v277_r0 : BitVec 1 := Scalar.xori v153_r0 true_240_r0
  let v278_r0 : BitVec 1 := Scalar.andi v276_r0 v277_r0
  let v279_r0 : BitVec 32 := Scalar.extui v278_r0
  let c0_i32_241_r0 : BitVec 32 := 0#32
  let v280_r0 : BitVec 1 := Scalar.cmpi .ne v279_r0 c0_i32_241_r0
  v280_r0

def k0_off33 (arg7_r0 : BitVec 32) : Fin 4 → Nat :=
  let c8_i32_250_r0 : BitVec 32 := 8#32
  let true_147_r0 : BitVec 1 := 1#1
  let c1_i32_146_r0 : BitVec 32 := 1#32
  let v156_r0 : BitVec 32 := Scalar.subi arg7_r0 c1_i32_146_r0
  let v157_r0 : BitVec 32 := Scalar.select true_147_r0 v156_r0 arg7_r0
  let c_m1_i32_148_r0 : BitVec 32 := 4294967295#32
  let v158_r0 : BitVec 1 := Scalar.cmpi .eq v157_r0 c_m1_i32_148_r0
  let c7_i32_149_r0 : BitVec 32 := 7#32
  let v159_r0 : BitVec 32 := Scalar.select v158_r0 c7_i32_149_r0 v157_r0
  let c0_i32_150_r0 : BitVec 32 := 0#32
  let v160_r0 : BitVec 32 := Scalar.addi v159_r0 c0_i32_150_r0
  let v293_r0 : BitVec 32 := Scalar.muli c8_i32_250_r0 v160_r0
  let c0_i32_251_r0 : BitVec 32 := 0#32
  let c0_i32_252_r0 : BitVec 32 := 0#32
  let c0_i32_253_r0 : BitVec 32 := 0#32
  ![v293_r0.toNat, 0, 0, 0]
def k0_off34 (arg6_r0 : BitVec 32) : Fin 5 → Nat :=
  let c2_i32_249_r0 : BitVec 32 := 2#32
  let v292_r0 : BitVec 32 := Scalar.remui arg6_r0 c2_i32_249_r0
  let c0_i32_254_r0 : BitVec 32 := 0#32
  let c0_i32_255_r0 : BitVec 32 := 0#32
  let c0_i32_256_r0 : BitVec 32 := 0#32
  let c0_i32_257_r0 : BitVec 32 := 0#32
  ![v292_r0.toNat, 0, 0, 0, 0]

def k0_chk1 (k0_t1 : Fin k0_t1_loop.trips) (arg3_r0 : BitVec 32) (arg4_r0 : BitVec 32) (arg5_r0 : BitVec 32) (arg6_r0 : BitVec 32) (arg7_r0 : BitVec 32) : Prop :=
  (∀ (k0_h7 : k0_cond7 k0_t1 arg7_r0 = 1#1), ∀ a, (k0_off21 arg3_r0) a + S1.size a ≤ S8.size a) ∧
  (∀ (k0_h7 : k0_cond7 k0_t1 arg7_r0 = 1#1), ∀ a, (k0_off22 arg3_r0) a + S1x8x64x1024.size a ≤ S8x8x64x1024.size a) ∧
  (∀ (k0_h7 : k0_cond7 k0_t1 arg7_r0 = 1#1), ∀ a, (k0_off23 arg7_r0) a + S8x64x1024.size a ≤ S64x64x1024.size a) ∧
  (∀ (k0_h8 : k0_cond8 k0_t1 arg7_r0 = 1#1), ∀ a, (k0_off24 arg4_r0) a + S1.size a ≤ S8.size a) ∧
  (∀ (k0_h8 : k0_cond8 k0_t1 arg7_r0 = 1#1), ∀ a, (k0_off25 arg4_r0) a + S1x8x64x1024.size a ≤ S8x8x64x1024.size a) ∧
  (∀ (k0_h8 : k0_cond8 k0_t1 arg7_r0 = 1#1), ∀ a, (k0_off26 arg7_r0) a + S8x64x1024.size a ≤ S64x64x1024.size a) ∧
  (∀ (k0_h11 : k0_cond11 k0_t1 arg7_r0 = 1#1), ∀ a, (k0_off29 arg5_r0) a + S1.size a ≤ S2.size a) ∧
  (∀ (k0_h11 : k0_cond11 k0_t1 arg7_r0 = 1#1), ∀ a, (k0_off30 arg7_r0) a + S8x3x64x1024.size a ≤ S64x3x64x1024.size a) ∧
  (∀ (k0_h11 : k0_cond11 k0_t1 arg7_r0 = 1#1), ∀ a, (k0_off31 arg5_r0) a + S1x8x3x64x1024.size a ≤ S2x8x3x64x1024.size a) ∧
  (∀ (k0_h13 : k0_cond13 k0_t1 arg7_r0 = 1#1), ∀ a, (k0_off32 arg6_r0) a + S1.size a ≤ S2.size a) ∧
  (∀ (k0_h13 : k0_cond13 k0_t1 arg7_r0 = 1#1), ∀ a, (k0_off33 arg7_r0) a + S8x3x64x1024.size a ≤ S64x3x64x1024.size a) ∧
  (∀ (k0_h13 : k0_cond13 k0_t1 arg7_r0 = 1#1), ∀ a, (k0_off34 arg6_r0) a + S1x8x3x64x1024.size a ≤ S2x8x3x64x1024.size a)
theorem k0_off21_inb : ∀ (k0_t1 : Fin k0_t1_loop.trips) (arg3_r0 : BitVec 32) (arg4_r0 : BitVec 32) (arg5_r0 : BitVec 32) (arg6_r0 : BitVec 32) (arg7_r0 : BitVec 32) (k0_hw1 : k0_chk1 k0_t1 arg3_r0 arg4_r0 arg5_r0 arg6_r0 arg7_r0), ∀ (k0_h7 : k0_cond7 k0_t1 arg7_r0 = 1#1), ∀ a, (k0_off21 arg3_r0) a + S1.size a ≤ S8.size a := fun k0_t1 arg3_r0 arg4_r0 arg5_r0 arg6_r0 arg7_r0 k0_hw1 k0_h7 => k0_hw1.1 k0_h7
theorem k0_off22_inb : ∀ (k0_t1 : Fin k0_t1_loop.trips) (arg3_r0 : BitVec 32) (arg4_r0 : BitVec 32) (arg5_r0 : BitVec 32) (arg6_r0 : BitVec 32) (arg7_r0 : BitVec 32) (k0_hw1 : k0_chk1 k0_t1 arg3_r0 arg4_r0 arg5_r0 arg6_r0 arg7_r0), ∀ (k0_h7 : k0_cond7 k0_t1 arg7_r0 = 1#1), ∀ a, (k0_off22 arg3_r0) a + S1x8x64x1024.size a ≤ S8x8x64x1024.size a := fun k0_t1 arg3_r0 arg4_r0 arg5_r0 arg6_r0 arg7_r0 k0_hw1 k0_h7 => k0_hw1.2.1 k0_h7
theorem k0_off23_inb : ∀ (k0_t1 : Fin k0_t1_loop.trips) (arg3_r0 : BitVec 32) (arg4_r0 : BitVec 32) (arg5_r0 : BitVec 32) (arg6_r0 : BitVec 32) (arg7_r0 : BitVec 32) (k0_hw1 : k0_chk1 k0_t1 arg3_r0 arg4_r0 arg5_r0 arg6_r0 arg7_r0), ∀ (k0_h7 : k0_cond7 k0_t1 arg7_r0 = 1#1), ∀ a, (k0_off23 arg7_r0) a + S8x64x1024.size a ≤ S64x64x1024.size a := fun k0_t1 arg3_r0 arg4_r0 arg5_r0 arg6_r0 arg7_r0 k0_hw1 k0_h7 => k0_hw1.2.2.1 k0_h7
theorem k0_off24_inb : ∀ (k0_t1 : Fin k0_t1_loop.trips) (arg3_r0 : BitVec 32) (arg4_r0 : BitVec 32) (arg5_r0 : BitVec 32) (arg6_r0 : BitVec 32) (arg7_r0 : BitVec 32) (k0_hw1 : k0_chk1 k0_t1 arg3_r0 arg4_r0 arg5_r0 arg6_r0 arg7_r0), ∀ (k0_h8 : k0_cond8 k0_t1 arg7_r0 = 1#1), ∀ a, (k0_off24 arg4_r0) a + S1.size a ≤ S8.size a := fun k0_t1 arg3_r0 arg4_r0 arg5_r0 arg6_r0 arg7_r0 k0_hw1 k0_h8 => k0_hw1.2.2.2.1 k0_h8
theorem k0_off25_inb : ∀ (k0_t1 : Fin k0_t1_loop.trips) (arg3_r0 : BitVec 32) (arg4_r0 : BitVec 32) (arg5_r0 : BitVec 32) (arg6_r0 : BitVec 32) (arg7_r0 : BitVec 32) (k0_hw1 : k0_chk1 k0_t1 arg3_r0 arg4_r0 arg5_r0 arg6_r0 arg7_r0), ∀ (k0_h8 : k0_cond8 k0_t1 arg7_r0 = 1#1), ∀ a, (k0_off25 arg4_r0) a + S1x8x64x1024.size a ≤ S8x8x64x1024.size a := fun k0_t1 arg3_r0 arg4_r0 arg5_r0 arg6_r0 arg7_r0 k0_hw1 k0_h8 => k0_hw1.2.2.2.2.1 k0_h8
theorem k0_off26_inb : ∀ (k0_t1 : Fin k0_t1_loop.trips) (arg3_r0 : BitVec 32) (arg4_r0 : BitVec 32) (arg5_r0 : BitVec 32) (arg6_r0 : BitVec 32) (arg7_r0 : BitVec 32) (k0_hw1 : k0_chk1 k0_t1 arg3_r0 arg4_r0 arg5_r0 arg6_r0 arg7_r0), ∀ (k0_h8 : k0_cond8 k0_t1 arg7_r0 = 1#1), ∀ a, (k0_off26 arg7_r0) a + S8x64x1024.size a ≤ S64x64x1024.size a := fun k0_t1 arg3_r0 arg4_r0 arg5_r0 arg6_r0 arg7_r0 k0_hw1 k0_h8 => k0_hw1.2.2.2.2.2.1 k0_h8
theorem k0_off29_inb : ∀ (k0_t1 : Fin k0_t1_loop.trips) (arg3_r0 : BitVec 32) (arg4_r0 : BitVec 32) (arg5_r0 : BitVec 32) (arg6_r0 : BitVec 32) (arg7_r0 : BitVec 32) (k0_hw1 : k0_chk1 k0_t1 arg3_r0 arg4_r0 arg5_r0 arg6_r0 arg7_r0), ∀ (k0_h11 : k0_cond11 k0_t1 arg7_r0 = 1#1), ∀ a, (k0_off29 arg5_r0) a + S1.size a ≤ S2.size a := fun k0_t1 arg3_r0 arg4_r0 arg5_r0 arg6_r0 arg7_r0 k0_hw1 k0_h11 => k0_hw1.2.2.2.2.2.2.1 k0_h11
theorem k0_off30_inb : ∀ (k0_t1 : Fin k0_t1_loop.trips) (arg3_r0 : BitVec 32) (arg4_r0 : BitVec 32) (arg5_r0 : BitVec 32) (arg6_r0 : BitVec 32) (arg7_r0 : BitVec 32) (k0_hw1 : k0_chk1 k0_t1 arg3_r0 arg4_r0 arg5_r0 arg6_r0 arg7_r0), ∀ (k0_h11 : k0_cond11 k0_t1 arg7_r0 = 1#1), ∀ a, (k0_off30 arg7_r0) a + S8x3x64x1024.size a ≤ S64x3x64x1024.size a := fun k0_t1 arg3_r0 arg4_r0 arg5_r0 arg6_r0 arg7_r0 k0_hw1 k0_h11 => k0_hw1.2.2.2.2.2.2.2.1 k0_h11
theorem k0_off31_inb : ∀ (k0_t1 : Fin k0_t1_loop.trips) (arg3_r0 : BitVec 32) (arg4_r0 : BitVec 32) (arg5_r0 : BitVec 32) (arg6_r0 : BitVec 32) (arg7_r0 : BitVec 32) (k0_hw1 : k0_chk1 k0_t1 arg3_r0 arg4_r0 arg5_r0 arg6_r0 arg7_r0), ∀ (k0_h11 : k0_cond11 k0_t1 arg7_r0 = 1#1), ∀ a, (k0_off31 arg5_r0) a + S1x8x3x64x1024.size a ≤ S2x8x3x64x1024.size a := fun k0_t1 arg3_r0 arg4_r0 arg5_r0 arg6_r0 arg7_r0 k0_hw1 k0_h11 => k0_hw1.2.2.2.2.2.2.2.2.1 k0_h11
theorem k0_off32_inb : ∀ (k0_t1 : Fin k0_t1_loop.trips) (arg3_r0 : BitVec 32) (arg4_r0 : BitVec 32) (arg5_r0 : BitVec 32) (arg6_r0 : BitVec 32) (arg7_r0 : BitVec 32) (k0_hw1 : k0_chk1 k0_t1 arg3_r0 arg4_r0 arg5_r0 arg6_r0 arg7_r0), ∀ (k0_h13 : k0_cond13 k0_t1 arg7_r0 = 1#1), ∀ a, (k0_off32 arg6_r0) a + S1.size a ≤ S2.size a := fun k0_t1 arg3_r0 arg4_r0 arg5_r0 arg6_r0 arg7_r0 k0_hw1 k0_h13 => k0_hw1.2.2.2.2.2.2.2.2.2.1 k0_h13
theorem k0_off33_inb : ∀ (k0_t1 : Fin k0_t1_loop.trips) (arg3_r0 : BitVec 32) (arg4_r0 : BitVec 32) (arg5_r0 : BitVec 32) (arg6_r0 : BitVec 32) (arg7_r0 : BitVec 32) (k0_hw1 : k0_chk1 k0_t1 arg3_r0 arg4_r0 arg5_r0 arg6_r0 arg7_r0), ∀ (k0_h13 : k0_cond13 k0_t1 arg7_r0 = 1#1), ∀ a, (k0_off33 arg7_r0) a + S8x3x64x1024.size a ≤ S64x3x64x1024.size a := fun k0_t1 arg3_r0 arg4_r0 arg5_r0 arg6_r0 arg7_r0 k0_hw1 k0_h13 => k0_hw1.2.2.2.2.2.2.2.2.2.2.1 k0_h13
theorem k0_off34_inb : ∀ (k0_t1 : Fin k0_t1_loop.trips) (arg3_r0 : BitVec 32) (arg4_r0 : BitVec 32) (arg5_r0 : BitVec 32) (arg6_r0 : BitVec 32) (arg7_r0 : BitVec 32) (k0_hw1 : k0_chk1 k0_t1 arg3_r0 arg4_r0 arg5_r0 arg6_r0 arg7_r0), ∀ (k0_h13 : k0_cond13 k0_t1 arg7_r0 = 1#1), ∀ a, (k0_off34 arg6_r0) a + S1x8x3x64x1024.size a ≤ S2x8x3x64x1024.size a := fun k0_t1 arg3_r0 arg4_r0 arg5_r0 arg6_r0 arg7_r0 k0_hw1 k0_h13 => k0_hw1.2.2.2.2.2.2.2.2.2.2.2 k0_h13

def k0_off35 (v95_3_r0 : BitVec 32) : Fin 1 → Nat :=
  let c2_i32_r0 : BitVec 32 := 2#32
  let v146_r0 : BitVec 32 := Scalar.remui v95_3_r0 c2_i32_r0
  ![v146_r0.toNat]

def k0_off36 (v95_4_r0 : BitVec 32) : Fin 4 → Nat :=
  let c8_i32_135_r0 : BitVec 32 := 8#32
  let true_86_r0 : BitVec 1 := 1#1
  let c1_i32_85_r0 : BitVec 32 := 1#32
  let v96_r0 : BitVec 32 := Scalar.subi v95_4_r0 c1_i32_85_r0
  let v97_r0 : BitVec 32 := Scalar.select true_86_r0 v96_r0 v95_4_r0
  let c_m1_i32_87_r0 : BitVec 32 := 4294967295#32
  let v98_r0 : BitVec 1 := Scalar.cmpi .eq v97_r0 c_m1_i32_87_r0
  let c7_i32_88_r0 : BitVec 32 := 7#32
  let v99_r0 : BitVec 32 := Scalar.select v98_r0 c7_i32_88_r0 v97_r0
  let c0_i32_89_r0 : BitVec 32 := 0#32
  let v100_r0 : BitVec 32 := Scalar.addi v99_r0 c0_i32_89_r0
  let v147_r0 : BitVec 32 := Scalar.muli c8_i32_135_r0 v100_r0
  let c0_i32_136_r0 : BitVec 32 := 0#32
  let c0_i32_137_r0 : BitVec 32 := 0#32
  let c0_i32_138_r0 : BitVec 32 := 0#32
  ![v147_r0.toNat, 0, 0, 0]

def k0_chk5 (v95_4_r0 : BitVec 32) : Prop :=
  (∀ a, (k0_off36 v95_4_r0) a + S8x3x64x1024.size a ≤ S64x3x64x1024.size a)
theorem k0_off36_inb : ∀ (v95_4_r0 : BitVec 32) (k0_hw5 : k0_chk5 v95_4_r0), ∀ a, (k0_off36 v95_4_r0) a + S8x3x64x1024.size a ≤ S64x3x64x1024.size a := fun v95_4_r0 k0_hw5 => k0_hw5

def k0_off37 (v95_3_r0 : BitVec 32) : Fin 5 → Nat :=
  let c2_i32_r0 : BitVec 32 := 2#32
  let v146_r0 : BitVec 32 := Scalar.remui v95_3_r0 c2_i32_r0
  let c0_i32_139_r0 : BitVec 32 := 0#32
  let c0_i32_140_r0 : BitVec 32 := 0#32
  let c0_i32_141_r0 : BitVec 32 := 0#32
  let c0_i32_142_r0 : BitVec 32 := 0#32
  ![v146_r0.toNat, 0, 0, 0, 0]

def k0_chk4 (v95_3_r0 : BitVec 32) : Prop :=
  (∀ a, (k0_off35 v95_3_r0) a + S1.size a ≤ S2.size a) ∧
  (∀ a, (k0_off37 v95_3_r0) a + S1x8x3x64x1024.size a ≤ S2x8x3x64x1024.size a)
theorem k0_off35_inb : ∀ (v95_3_r0 : BitVec 32) (k0_hw4 : k0_chk4 v95_3_r0), ∀ a, (k0_off35 v95_3_r0) a + S1.size a ≤ S2.size a := fun v95_3_r0 k0_hw4 => k0_hw4.1
theorem k0_off37_inb : ∀ (v95_3_r0 : BitVec 32) (k0_hw4 : k0_chk4 v95_3_r0), ∀ a, (k0_off37 v95_3_r0) a + S1x8x3x64x1024.size a ≤ S2x8x3x64x1024.size a := fun v95_3_r0 k0_hw4 => k0_hw4.2
-- ==== ReferenceIdeal.lean ====
abbrev S1024x64x64 : Shape := ⟨3, ![1024, 64, 64]⟩
abbrev S_ : Shape := ⟨0, ![]⟩
abbrev S1024x64x64x1 : Shape := ⟨4, ![1024, 64, 64, 1]⟩
abbrev S1024x64x64x3 : Shape := ⟨4, ![1024, 64, 64, 3]⟩

abbrev nBuf : Space → Nat
  | .hbm => 21
  | .vmem => 0
  | .smem => 0
  | _ => 0

abbrev bufTy : (tb : Table) → Fin (tcTables nBuf tb) → BufTy
  | .hbm, ⟨0, _⟩ => ⟨S1024x64x64, .f32⟩
  | .hbm, ⟨1, _⟩ => ⟨S_, .f32⟩
  | .hbm, ⟨2, _⟩ => ⟨S1024x64x64, .f32⟩
  | .hbm, ⟨3, _⟩ => ⟨S1024x64x64, .i1⟩
  | .hbm, ⟨4, _⟩ => ⟨S1024x64x64, .i32⟩
  | .hbm, ⟨5, _⟩ => ⟨S1024x64x64x1, .i32⟩
  | .hbm, ⟨6, _⟩ => ⟨S_, .f32⟩
  | .hbm, ⟨7, _⟩ => ⟨S1024x64x64, .f32⟩
  | .hbm, ⟨8, _⟩ => ⟨S1024x64x64, .i1⟩
  | .hbm, ⟨9, _⟩ => ⟨S_, .f32⟩
  | .hbm, ⟨10, _⟩ => ⟨S1024x64x64, .f32⟩
  | .hbm, ⟨11, _⟩ => ⟨S1024x64x64, .i1⟩
  | .hbm, ⟨12, _⟩ => ⟨S1024x64x64, .i1⟩
  | .hbm, ⟨13, _⟩ => ⟨S1024x64x64, .i32⟩
  | .hbm, ⟨14, _⟩ => ⟨S1024x64x64x1, .i32⟩
  | .hbm, ⟨15, _⟩ => ⟨S_, .f32⟩
  | .hbm, ⟨16, _⟩ => ⟨S1024x64x64, .f32⟩
  | .hbm, ⟨17, _⟩ => ⟨S1024x64x64, .i1⟩
  | .hbm, ⟨18, _⟩ => ⟨S1024x64x64, .i32⟩
  | .hbm, ⟨19, _⟩ => ⟨S1024x64x64x1, .i32⟩
  | .hbm, ⟨20, _⟩ => ⟨S1024x64x64x3, .i32⟩
  | _, _ => ⟨S1024x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Proof.Pipe.Words.lean ====
/- The words that the pipeline carries from trip to trip, and what the kernel computes of them: the
   slot, the block and the semaphore that each transfer of a trip names. -/
module

public import proofs.«01_k».proof.Proof.Gen.KernelIdeal.Loops

@[expose] public section

namespace Cert.KernelIdeal.Pipe

open Idealize.ShloMosaic

/-- The five words carried before trip `k`: how many fetches were issued (seven before the loop, the
    eighth in trip 0), how many were waited for, how many results were sent, how many of those were
    waited for, and the block of the trip. -/
def carry (k : ℕ) : BitVec 32 × BitVec 32 × BitVec 32 × BitVec 32 × BitVec 32 :=
  (if k = 0 then 7#32 else 8#32, BitVec.ofNat 32 k, BitVec.ofNat 32 k, BitVec.ofNat 32 (k - 1), BitVec.ofNat 32 (k % 8))

theorem trips_eq : k0_t1_loop.trips = 8 := by decide +kernel

theorem lt8 (k : Fin k0_t1_loop.trips) : k.val < 8 := trips_eq ▸ k.isLt

/-! ## The side conditions that a trip checks -/

theorem chk1 : ∀ k : Fin k0_t1_loop.trips, k0_chk1 k (if k.val = 0 then 7#32 else 8#32) (BitVec.ofNat 32 k.val) (BitVec.ofNat 32 k.val) (BitVec.ofNat 32 (k.val - 1)) (BitVec.ofNat 32 (k.val % 8)) := by
  decide +kernel

theorem chk2 : ∀ k : Fin k0_t1_loop.trips, k0_chk2 (BitVec.ofNat 32 k.val) := by decide +kernel

theorem chk3 : ∀ k : Fin k0_t1_loop.trips, k0_chk3 (BitVec.ofNat 32 k.val) := by decide +kernel

theorem chk4 : k0_chk4 (BitVec.ofNat 32 (8 - 1)) := by decide +kernel

theorem chk5 : k0_chk5 (BitVec.ofNat 32 (8 % 8)) := by decide +kernel

/-! ## Which transfers a trip issues and waits for -/

/-- Only trip 0 still has a block to fetch. -/
theorem cond7 : ∀ k : Fin k0_t1_loop.trips, k0_cond7 k (BitVec.ofNat 32 (k.val % 8)) = 1#1 ↔ k.val = 0 := by decide +kernel

/-- Every trip waits for its own block. -/
theorem cond8 : ∀ k : Fin k0_t1_loop.trips, k0_cond8 k (BitVec.ofNat 32 (k.val % 8)) = 1#1 := by decide +kernel

/-- Every trip sends its result. -/
theorem cond11 : ∀ k : Fin k0_t1_loop.trips, k0_cond11 k (BitVec.ofNat 32 (k.val % 8)) = 1#1 := by decide +kernel

/-- Every trip but the first waits for the result sent the trip before. -/
theorem cond13 : ∀ k : Fin k0_t1_loop.trips, k0_cond13 k (BitVec.ofNat 32 (k.val % 8)) = 1#1 ↔ k.val ≠ 0 := by decide +kernel

theorem cond1 : k0_cond1 = 1#1 := by decide +kernel
theorem cond2 : k0_cond2 = 1#1 := by decide +kernel
theorem cond3 : k0_cond3 = 1#1 := by decide +kernel
theorem cond4 : k0_cond4 = 1#1 := by decide +kernel
theorem cond5 : k0_cond5 = 1#1 := by decide +kernel
theorem cond6 : k0_cond6 = 1#1 := by decide +kernel

/-! ## Where the transfers go -/

theorem off21 : k0_off21 7#32 = ![7] := by decide +kernel
theorem off22 : k0_off22 7#32 = ![7, 0, 0, 0] := by decide +kernel
theorem off23 : k0_off23 0#32 = ![8 * 7, 0, 0] := by decide +kernel
theorem off24 : ∀ k : Fin k0_t1_loop.trips, k0_off24 (BitVec.ofNat 32 k.val) = ![k.val] := by decide +kernel
theorem off25 : ∀ k : Fin k0_t1_loop.trips, k0_off25 (BitVec.ofNat 32 k.val) = ![k.val, 0, 0, 0] := by decide +kernel
theorem off26 : ∀ k : Fin k0_t1_loop.trips, k0_off26 (BitVec.ofNat 32 (k.val % 8)) = ![8 * k.val, 0, 0] := by decide +kernel
theorem off27 : ∀ k : Fin k0_t1_loop.trips, k0_off27 (BitVec.ofNat 32 k.val) = ![k.val, 0, 0, 0] := by decide +kernel
theorem off28 : ∀ k : Fin k0_t1_loop.trips, k0_off28 (BitVec.ofNat 32 k.val) = ![k.val % 2, 0, 0, 0, 0] := by decide +kernel
theorem off29 : ∀ k : Fin k0_t1_loop.trips, k0_off29 (BitVec.ofNat 32 k.val) = ![k.val % 2] := by decide +kernel
theorem off30 : ∀ k : Fin k0_t1_loop.trips, k0_off30 (BitVec.ofNat 32 (k.val % 8)) = ![8 * k.val, 0, 0, 0] := by decide +kernel
theorem off31 : ∀ k : Fin k0_t1_loop.trips, k0_off31 (BitVec.ofNat 32 k.val) = ![k.val % 2, 0, 0, 0, 0] := by decide +kernel
theorem off32 : ∀ k : Fin k0_t1_loop.trips, k.val ≠ 0 → k0_off32 (BitVec.ofNat 32 (k.val - 1)) = ![(k.val - 1) % 2] := by decide +kernel
theorem off33 : ∀ k : Fin k0_t1_loop.trips, k.val ≠ 0 → k0_off33 (BitVec.ofNat 32 (k.val % 8)) = ![8 * (k.val - 1), 0, 0, 0] := by decide +kernel
theorem off34 : ∀ k : Fin k0_t1_loop.trips, k.val ≠ 0 → k0_off34 (BitVec.ofNat 32 (k.val - 1)) = ![(k.val - 1) % 2, 0, 0, 0, 0] := by decide +kernel
theorem off35 : k0_off35 (BitVec.ofNat 32 (8 - 1)) = ![1] := by decide +kernel
theorem off36 : k0_off36 (BitVec.ofNat 32 (8 % 8)) = ![8 * 7, 0, 0, 0] := by decide +kernel
theorem off37 : k0_off37 (BitVec.ofNat 32 (8 - 1)) = ![1, 0, 0, 0, 0] := by decide +kernel

end Cert.KernelIdeal.Pipe
-- ==== Proof.Pipe.Places.lean ====
/- The places the pipeline's copies go between, by the number of the block or of the slot: the eight blocks of the
   transposed input and of the result in HBM, the eight input slots and the two output slots in VMEM, and the
   semaphores that count them. -/
module

public import proofs.«01_k».proof.Proof.Pipe.Words
public import proofs.«01_k».proof.Proof.Gen.KernelIdeal.Frame
public import Idealize.ShloMosaic.Lib.ViewIndex

@[expose] public section

noncomputable section

namespace Cert.KernelIdeal.Pipe

open Cert.KernelIdeal Cert.KernelIdeal.Gen
open Idealize.ShloMosaic Idealize.ShloMosaic.TcCoe

variable {F : FTy → Type} [FloatOps F]

/-- The four arrays: the transposed input, the result, the input slots and the output slots. -/
abbrev srcM : Memref sig .tc .hbm S64x64x1024 .f32 := Memref.whole main_v0
abbrev dstM : Memref sig .tc .hbm S64x3x64x1024 .i32 := Memref.whole main_v1
abbrev inM : Memref sig .tc .vmem S8x8x64x1024 .f32 := Memref.whole cc0_scoped0
abbrev outM : Memref sig .tc .vmem S2x8x3x64x1024 .i32 := Memref.whole cc0_scoped2

/-! ## The rectangles lie inside their arrays -/

theorem srcBlk_inb : ∀ (j : Fin 8) (a : Fin 3), (![8 * j.val, 0, 0] : Fin 3 → ℕ) a + S8x64x1024.size a ≤ S64x64x1024.size a := by decide +kernel
theorem dstBlk_inb : ∀ (j : Fin 8) (a : Fin 4), (![8 * j.val, 0, 0, 0] : Fin 4 → ℕ) a + S8x3x64x1024.size a ≤ S64x3x64x1024.size a := by decide +kernel
theorem inSlot_inb : ∀ (j : Fin 8) (a : Fin 4), (![j.val, 0, 0, 0] : Fin 4 → ℕ) a + S1x8x64x1024.size a ≤ S8x8x64x1024.size a := by decide +kernel
theorem outSlot_inb : ∀ (s : Fin 2) (a : Fin 5), (![s.val, 0, 0, 0, 0] : Fin 5 → ℕ) a + S1x8x3x64x1024.size a ≤ S2x8x3x64x1024.size a := by decide +kernel
theorem inCell_inb : ∀ (j : Fin 8) (a : Fin 1), (![j.val] : Fin 1 → ℕ) a + S1.size a ≤ S8.size a := by decide +kernel
theorem outCell_inb : ∀ (s : Fin 2) (a : Fin 1), (![s.val] : Fin 1 → ℕ) a + S1.size a ≤ S2.size a := by decide +kernel

/-! ## The places -/

/-- Block `j` of the transposed input: rows `8 j` to `8 j + 7`. -/
abbrev srcBlk (j : Fin 8) : Memref sig .tc .hbm S8x64x1024 .f32 :=
  srcM.slice (Rect.unit (s := S64x64x1024) ![8 * j.val, 0, 0] S8x64x1024.size (srcBlk_inb j)) (fun _ => rfl)
/-- Block `j` of the result: rows `8 j` to `8 j + 7`. -/
abbrev dstBlk (j : Fin 8) : Memref sig .tc .hbm S8x3x64x1024 .i32 :=
  dstM.slice (Rect.unit (s := S64x3x64x1024) ![8 * j.val, 0, 0, 0] S8x3x64x1024.size (dstBlk_inb j)) (fun _ => rfl)
/-- Input slot `j`, before its leading axis of extent one is dropped. -/
abbrev inSlot₁ (j : Fin 8) : Memref sig .tc .vmem S1x8x64x1024 .f32 :=
  inM.slice (Rect.unit (s := S8x8x64x1024) ![j.val, 0, 0, 0] S1x8x64x1024.size (inSlot_inb j)) (fun _ => rfl)
/-- Input slot `j`. -/
abbrev inSlot (j : Fin 8) : Memref sig .tc .vmem S8x64x1024 .f32 :=
  (inSlot₁ j).squeeze S8x64x1024 squeezes_S1x8x64x1024_S8x64x1024
/-- Output slot `s`, before its leading axis of extent one is dropped. -/
abbrev outSlot₁ (s : Fin 2) : Memref sig .tc .vmem S1x8x3x64x1024 .i32 :=
  outM.slice (Rect.unit (s := S2x8x3x64x1024) ![s.val, 0, 0, 0, 0] S1x8x3x64x1024.size (outSlot_inb s)) (fun _ => rfl)
/-- Output slot `s`. -/
abbrev outSlot (s : Fin 2) : Memref sig .tc .vmem S8x3x64x1024 .i32 :=
  (outSlot₁ s).squeeze S8x3x64x1024 squeezes_S1x8x3x64x1024_S8x3x64x1024
/-- The semaphore of input slot `j`. -/
def inCell (j : Fin 8) : DmaSem sig :=
  ((cc0_scoped1.slice (Rect.unit (s := S8) ![j.val] S1.size (inCell_inb j))).squeeze S_ squeezes_S1_S_).sem
/-- The semaphore of output slot `s`. -/
def outCell (s : Fin 2) : DmaSem sig :=
  ((cc0_scoped3.slice (Rect.unit (s := S2) ![s.val] S1.size (outCell_inb s))).squeeze S_ squeezes_S1_S_).sem

/-- The semaphores' numbers: the input slots' are 0 to 7, the output slots' 8 and 9. -/
theorem inCell_val : ∀ j : Fin 8, (inCell j).val = j.val := by decide +kernel
theorem outCell_val : ∀ s : Fin 2, (outCell s).val = 8 + s.val := by decide +kernel

/-- The output slot that block `j` goes through. -/
def par (j : Fin 8) : Fin 2 := ⟨j.val % 2, Nat.mod_lt _ (by decide)⟩

/-- Each place's elements, as indices of its array. -/
abbrev srcSet (j : Fin 8) : Finset S64x64x1024.Idx := (srcBlk j).view.set
abbrev dstSet (j : Fin 8) : Finset S64x3x64x1024.Idx := (dstBlk j).view.set
abbrev inSet (j : Fin 8) : Finset S8x8x64x1024.Idx := (inSlot j).view.set
abbrev outSet (s : Fin 2) : Finset S2x8x3x64x1024.Idx := (outSlot s).view.set

/-! ## Their elements, told apart by the first coordinate -/

/-- The elements of each place are those of its rectangle. -/
theorem srcBlk_set (j : Fin 8) : (srcBlk j).view.set = (Rect.unit (s := S64x64x1024) ![8 * j.val, 0, 0] S8x64x1024.size (srcBlk_inb j)).set :=
  View.set_slice_whole main_v0 _
theorem dstBlk_set (j : Fin 8) : (dstBlk j).view.set = (Rect.unit (s := S64x3x64x1024) ![8 * j.val, 0, 0, 0] S8x3x64x1024.size (dstBlk_inb j)).set :=
  View.set_slice_whole main_v1 _
theorem inSlot_set (j : Fin 8) : (inSlot j).view.set = (Rect.unit (s := S8x8x64x1024) ![j.val, 0, 0, 0] S1x8x64x1024.size (inSlot_inb j)).set :=
  (View.set_reshape _ _).trans (View.set_slice_whole cc0_scoped0 _)
theorem outSlot_set (s : Fin 2) : (outSlot s).view.set = (Rect.unit (s := S2x8x3x64x1024) ![s.val, 0, 0, 0, 0] S1x8x3x64x1024.size (outSlot_inb s)).set :=
  (View.set_reshape _ _).trans (View.set_slice_whole cc0_scoped2 _)

/-- An element of the transposed input lies in the block that its first coordinate says; the next three likewise. -/
theorem mem_srcBlk (j : Fin 8) (i : S64x64x1024.Idx) : i ∈ (srcBlk j).view.set ↔ (i 0).val / 8 = j.val := by
  rw [srcBlk_set, Rect.mem_set_unit]
  constructor
  · intro h
    have h0 : 8 * j.val ≤ (i 0).val ∧ (i 0).val < 8 * j.val + 8 := h 0
    omega
  · intro h
    have h1 : (i 1).val < 64 := (i 1).isLt
    have h2 : (i 2).val < 1024 := (i 2).isLt
    exact Fin.forall_fin_succ.mpr ⟨show 8 * j.val ≤ (i 0).val ∧ (i 0).val < 8 * j.val + 8 by omega, Fin.forall_fin_succ.mpr
      ⟨⟨Nat.zero_le _, show (i 1).val < 0 + 64 by omega⟩, Fin.forall_fin_succ.mpr
      ⟨⟨Nat.zero_le _, show (i 2).val < 0 + 1024 by omega⟩, fun a => a.elim0⟩⟩⟩

theorem mem_dstBlk (j : Fin 8) (i : S64x3x64x1024.Idx) : i ∈ (dstBlk j).view.set ↔ (i 0).val / 8 = j.val := by
  rw [dstBlk_set, Rect.mem_set_unit]
  constructor
  · intro h
    have h0 : 8 * j.val ≤ (i 0).val ∧ (i 0).val < 8 * j.val + 8 := h 0
    omega
  · intro h
    have h1 : (i 1).val < 3 := (i 1).isLt
    have h2 : (i 2).val < 64 := (i 2).isLt
    have h3 : (i 3).val < 1024 := (i 3).isLt
    exact Fin.forall_fin_succ.mpr ⟨show 8 * j.val ≤ (i 0).val ∧ (i 0).val < 8 * j.val + 8 by omega, Fin.forall_fin_succ.mpr
      ⟨⟨Nat.zero_le _, show (i 1).val < 0 + 3 by omega⟩, Fin.forall_fin_succ.mpr
      ⟨⟨Nat.zero_le _, show (i 2).val < 0 + 64 by omega⟩, Fin.forall_fin_succ.mpr
      ⟨⟨Nat.zero_le _, show (i 3).val < 0 + 1024 by omega⟩, fun a => a.elim0⟩⟩⟩⟩

theorem mem_inSlot (j : Fin 8) (i : S8x8x64x1024.Idx) : i ∈ (inSlot j).view.set ↔ (i 0).val = j.val := by
  rw [inSlot_set, Rect.mem_set_unit]
  constructor
  · intro h
    have h0 : j.val ≤ (i 0).val ∧ (i 0).val < j.val + 1 := h 0
    omega
  · intro h
    have h1 : (i 1).val < 8 := (i 1).isLt
    have h2 : (i 2).val < 64 := (i 2).isLt
    have h3 : (i 3).val < 1024 := (i 3).isLt
    exact Fin.forall_fin_succ.mpr ⟨show j.val ≤ (i 0).val ∧ (i 0).val < j.val + 1 by omega, Fin.forall_fin_succ.mpr
      ⟨⟨Nat.zero_le _, show (i 1).val < 0 + 8 by omega⟩, Fin.forall_fin_succ.mpr
      ⟨⟨Nat.zero_le _, show (i 2).val < 0 + 64 by omega⟩, Fin.forall_fin_succ.mpr
      ⟨⟨Nat.zero_le _, show (i 3).val < 0 + 1024 by omega⟩, fun a => a.elim0⟩⟩⟩⟩

theorem mem_outSlot (s : Fin 2) (i : S2x8x3x64x1024.Idx) : i ∈ (outSlot s).view.set ↔ (i 0).val = s.val := by
  rw [outSlot_set, Rect.mem_set_unit]
  constructor
  · intro h
    have h0 : s.val ≤ (i 0).val ∧ (i 0).val < s.val + 1 := h 0
    omega
  · intro h
    have h1 : (i 1).val < 8 := (i 1).isLt
    have h2 : (i 2).val < 3 := (i 2).isLt
    have h3 : (i 3).val < 64 := (i 3).isLt
    have h4 : (i 4).val < 1024 := (i 4).isLt
    exact Fin.forall_fin_succ.mpr ⟨show s.val ≤ (i 0).val ∧ (i 0).val < s.val + 1 by omega, Fin.forall_fin_succ.mpr
      ⟨⟨Nat.zero_le _, show (i 1).val < 0 + 8 by omega⟩, Fin.forall_fin_succ.mpr
      ⟨⟨Nat.zero_le _, show (i 2).val < 0 + 3 by omega⟩, Fin.forall_fin_succ.mpr
      ⟨⟨Nat.zero_le _, show (i 3).val < 0 + 64 by omega⟩, Fin.forall_fin_succ.mpr
      ⟨⟨Nat.zero_le _, show (i 4).val < 0 + 1024 by omega⟩, fun a => a.elim0⟩⟩⟩⟩⟩

/-- Sets told apart by a number of their elements are pairwise disjoint. -/
theorem disjoint_of_num {ι α : Type} {J : ι → Finset α} {v : ι → ℕ} (hv : Function.Injective v) {n : α → ℕ}
    (h : ∀ j i, i ∈ J j ↔ n i = v j) (a b : ι) (hab : a ≠ b) : Disjoint (J a) (J b) :=
  Finset.disjoint_left.mpr fun i ha hb => hab (hv (((h a i).mp ha).symm.trans ((h b i).mp hb)))

/-- Sets told apart by a number of their elements that stays below their count are everything together. -/
theorem cover_of_num {m : ℕ} {α : Type} [Fintype α] [DecidableEq α] {J : Fin m → Finset α} {n : α → ℕ}
    (h : ∀ j i, i ∈ J j ↔ n i = j.val) (hn : ∀ i, n i < m) : Finset.univ.biUnion J = Finset.univ :=
  Finset.eq_univ_iff_forall.mpr fun i => Finset.mem_biUnion.mpr ⟨⟨n i, hn i⟩, Finset.mem_univ _, (h _ i).mpr rfl⟩

end Cert.KernelIdeal.Pipe
-- ==== Proof.Pipe.Values.lean ====
/- What one block computes: each element of the input is put in one of three classes, and the block of the result holds
   the three classes' indicators side by side. -/
module

public import proofs.«01_k».proof.Proof.Pipe.Places
public import proofs.«01_k».proof.Proof.Gen.KernelIdeal.Skeleton
public import Idealize.ShloMosaic.Lib.ViewIndex
public import Idealize.ShloMosaic.Lib.WritesUnit
public import Idealize.ShloMosaic.Lib.PointwiseCore

@[expose] public section

noncomputable section

namespace Cert.KernelIdeal.Pipe

open Cert.KernelIdeal Cert.KernelIdeal.Gen
open Idealize.ShloMosaic Idealize.ShloMosaic.TcCoe

variable {F : FTy → Type} [FloatOps F]

/-- Whether `a` is above the lower threshold, and above the upper one. -/
def aboveLow (a : F .f32) : BitVec 1 := FloatOps.cmpf .ogt a (Scalar.ofBits .f32 0x3ECCCCCD#32)
def aboveHigh (a : F .f32) : BitVec 1 := FloatOps.cmpf .ogt a (Scalar.ofBits .f32 0x3F333333#32)

/-- Whether the element `a` is of class `p`, as 1 or 0. Class 0: not above the lower threshold. Class 1: above the lower
    and not above the upper one. Class 2: above the upper one. -/
def indicator (a : F .f32) (p : ℕ) : BitVec 32 :=
  if p = 0 then Scalar.select (aboveLow a) 0#32 1#32
  else if p = 1 then Scalar.select (Scalar.andi (aboveLow a) (Scalar.xori (aboveHigh a) 1#1)) 1#32 0#32
  else Scalar.select (aboveHigh a) 1#32 0#32

/-- The three classes, one by one. -/
theorem indicator_zero (a : F .f32) : indicator a 0 = Scalar.select (aboveLow a) 0#32 1#32 := if_pos rfl
theorem indicator_one (a : F .f32) :
    indicator a 1 = Scalar.select (Scalar.andi (aboveLow a) (Scalar.xori (aboveHigh a) 1#1)) 1#32 0#32 :=
  (if_neg Nat.one_ne_zero).trans (if_pos rfl)
theorem indicator_two (a : F .f32) : indicator a 2 = Scalar.select (aboveHigh a) 1#32 0#32 :=
  (if_neg (by decide)).trans (if_neg (by decide))

/-- The block of indicators of a block of the input. -/
def blockOut (P : S8x64x1024.Idx → F .f32) : S8x3x64x1024.Idx → BitVec 32 :=
  fun x => indicator (P (ix3 (x 0) (x 2) (x 3))) (x 1).val

/-- The result array of the whole (transposed) input. -/
def resultOf (X : S64x64x1024.Idx → F .f32) : S64x3x64x1024.Idx → BitVec 32 :=
  fun x => indicator (X (ix3 (x 0) (x 2) (x 3))) (x 1).val

/-! ## The three planes that a trip stores -/

/-- The plane of class 0. -/
theorem pay6_apply (v : Vec F S1x8x64x1024 .f32) (b : Fin 8) (z : Fin 1) (h : Fin 64) (w : Fin 1024) :
    k0_pay6 v (ix4 b z h w) = indicator (k0_pay1 v (ix3 b h w)) 0 := by
  rw [indicator_zero]
  unfold k0_pay6 k0_pay2 k0_pay4 k0_pay5
  pointwise
  rfl
/-- The plane of class 1. -/
theorem pay8_apply (v : Vec F S1x8x64x1024 .f32) (b : Fin 8) (z : Fin 1) (h : Fin 64) (w : Fin 1024) :
    k0_pay8 (k0_pay7 v) (ix4 b z h w) = indicator (k0_pay1 v (ix3 b h w)) 1 := by
  rw [indicator_one]
  unfold k0_pay8 k0_pay7 k0_pay2 k0_pay3 k0_pay4 k0_pay5
  pointwise
  rfl
/-- The plane of class 2. -/
theorem pay9_apply (v : Vec F S1x8x64x1024 .f32) (b : Fin 8) (z : Fin 1) (h : Fin 64) (w : Fin 1024) :
    k0_pay9 (k0_pay3 v) k0_pay4 k0_pay5 (ix4 b z h w) = indicator (k0_pay1 v (ix3 b h w)) 2 := by
  rw [indicator_two]
  unfold k0_pay9 k0_pay3 k0_pay4 k0_pay5
  pointwise
  rfl

/-- The loaded slot with its leading axis dropped is what the slot's own view reads. -/
theorem pay1_inSlot (j : Fin 8) (f : S8x8x64x1024.Idx → F .f32) :
    k0_pay1 ((inSlot₁ j).view.read (Elt F) f) = (inSlot j).view.read (Elt F) f := rfl

/-- The first `n` planes of a block of the result are in place: through the view `v`, the contents `f` reads there
    the indicators of the input block `P`. -/
def Planes (v : View sig .tc .vmem S8x3x64x1024 .i32) (P : S8x64x1024.Idx → F .f32) (n : ℕ) (f : v.ty.Contents (Elt F)) : Prop :=
  ∀ x, (x 1).val < n → v.read (Elt F) f x = blockOut P x

/-- With no plane asked for there is nothing to show. -/
theorem planes_zero (v : View sig .tc .vmem S8x3x64x1024 .i32) (P : S8x64x1024.Idx → F .f32) (f : v.ty.Contents (Elt F)) :
    Planes v P 0 f := fun _ h => absurd h (Nat.not_lt_zero _)

/-- Storing plane `n` adds it to the planes in place. -/
theorem planes_store (v : View sig .tc .vmem S8x3x64x1024 .i32) (P : S8x64x1024.Idx → F .f32) (n : ℕ) (f : v.ty.Contents (Elt F))
    (inb : ∀ a : Fin 4, (![0, n, 0, 0] : Fin 4 → ℕ) a + S8x1x64x1024.size a ≤ S8x3x64x1024.size a)
    (w : S8x1x64x1024.Idx → BitVec 32)
    (hw : ∀ (b : Fin 8) (z : Fin 1) (h : Fin 64) (c : Fin 1024), w (ix4 b z h c) = indicator (P (ix3 b h c)) n) (hf : Planes v P n f) :
    Planes v P (n + 1) ((v.slice (Rect.unit (s := S8x3x64x1024) ![0, n, 0, 0] S8x1x64x1024.size inb)).write (Elt F) f w Finset.univ) := by
  intro x hx
  by_cases hn : (x 1).val = n
  · have he : (Rect.unit (s := S8x3x64x1024) ![0, n, 0, 0] S8x1x64x1024.size inb).emb (ix4 (n0 := 8) (n1 := 1) (n2 := 64) (n3 := 1024) (x 0) 0 (x 2) (x 3)) = x := by
      funext a
      apply Fin.ext
      revert a
      exact Fin.forall_fin_succ.mpr ⟨show 0 + 1 * (x 0).val = (x 0).val by omega, Fin.forall_fin_succ.mpr
        ⟨show n + 1 * 0 = (x 1).val by omega, Fin.forall_fin_succ.mpr
        ⟨show 0 + 1 * (x 2).val = (x 2).val by omega, Fin.forall_fin_succ.mpr
        ⟨show 0 + 1 * (x 3).val = (x 3).val by omega, fun a => a.elim0⟩⟩⟩⟩
    have h1 := View.read_slice_write_emb (Val := Elt F) (v := v) (Rect.unit (s := S8x3x64x1024) ![0, n, 0, 0] S8x1x64x1024.size inb) f w
      (M := Finset.univ) (x := ix4 (n0 := 8) (n1 := 1) (n2 := 64) (n3 := 1024) (x 0) 0 (x 2) (x 3)) (Finset.mem_univ _)
    rw [he] at h1
    refine (h1.trans (hw (x 0) 0 (x 2) (x 3))).trans ?_
    show _ = indicator _ (x 1).val
    rw [hn]
  · have hm : x ∉ (Finset.univ (α := S8x1x64x1024.Idx)).map (Rect.unit (s := S8x3x64x1024) ![0, n, 0, 0] S8x1x64x1024.size inb).emb := by
      intro hm
      obtain ⟨y, -, hy⟩ := Finset.mem_map.mp hm
      have h1 : n + 1 * (y 1).val = (x 1).val := congrArg (fun i : S8x3x64x1024.Idx => (i 1).val) hy
      have h2 : (y 1).val < 1 := (y 1).isLt
      omega
    have h1 := View.read_slice_write_of_not_mem (Val := Elt F) (v := v) (Rect.unit (s := S8x3x64x1024) ![0, n, 0, 0] S8x1x64x1024.size inb) f w
      Finset.univ (y := x) hm
    exact h1.trans (hf x (by omega))

/-- With all three planes in place the whole block is. -/
theorem planes_three (v : View sig .tc .vmem S8x3x64x1024 .i32) (P : S8x64x1024.Idx → F .f32) (f : v.ty.Contents (Elt F))
    (h : Planes v P 3 f) : v.read (Elt F) f = blockOut P :=
  funext fun x => h x (x 1).isLt

/-- Block `j` of the result array is the block of indicators of the input's block `j`. -/
theorem dstBlk_resultOf (j : Fin 8) (X : S64x64x1024.Idx → F .f32) :
    (dstBlk j).view.read (Elt F) (resultOf X) = blockOut ((srcBlk j).view.read (Elt F) X) := by
  funext x
  have h : (ix3 (n0 := 64) (n1 := 64) (n2 := 1024) ((dstBlk j).view.emb x 0) ((dstBlk j).view.emb x 2) ((dstBlk j).view.emb x 3))
      = (srcBlk j).view.emb (ix3 (n0 := 8) (n1 := 64) (n2 := 1024) (x 0) (x 2) (x 3)) := by
    exact Shape.idx3_ext rfl rfl rfl
  have h1 : ((dstBlk j).view.emb x 1).val = (x 1).val := show 0 + 1 * (x 1).val = (x 1).val by omega
  show resultOf X ((dstBlk j).view.emb x) = indicator (X ((srcBlk j).view.emb _)) (x 1).val
  rw [← h, ← h1]
  rfl

end Cert.KernelIdeal.Pipe
-- ==== Proof.Pipe.Rules.lean ====
/- The pipeline's operations one at a time: a copy of an input block into its slot and the wait for it, the load of the
   slot, the stores of the three planes, the copy of an output slot into the result and the wait for that. Each is stated
   for the block's number and for offsets that equal the number's, so that it applies to the printed operation whose
   offsets are words. -/
module

public import proofs.«01_k».proof.Proof.Pipe.Values
public import Idealize.ShloMosaic.Lib.Pipeline.FrameBody
public import Idealize.ShloMosaic.Lib.Transfers
public import Idealize.ShloMosaic.Lib.Tactic

@[expose] public section

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's algebra: the pipeline library's beside the transfers' counters. -/
local notation "𝕄" => MT nD τ sig Unit (Elt F) ℕ (Pipeline.UD sig nD τ) ℕ

/-- The transfers' counters in that algebra. -/
abbrev EC : UEmb Counters 𝕄 := countersEmb (U := Pipeline.UD sig nD τ)

variable (c : Dev nD) (X : S64x64x1024.Idx → F .f32)

/-! ## What the core holds of a block and of a slot -/

/-- Block `j` of the transposed input, at the contents `X`. -/
def srcHas (j : Fin 8) : sProp 𝕄 := (srcBlk j).view.loc (c : Thread nD τ) ↦[(srcBlk j).view.set]{fullShare} X
/-- Input slot `j`, at any contents. -/
def slotAny (j : Fin 8) : sProp 𝕄 := iprop(∃ f, (inSlot j).view.loc (c : Thread nD τ) ↦[(inSlot j).view.set]{fullShare} f)
/-- Input slot `j`, holding block `j` of the input. -/
def slotHas (j : Fin 8) : sProp 𝕄 :=
  iprop(∃ f, ⌜(inSlot j).view.read (Elt F) f = (srcBlk j).view.read (Elt F) X⌝
    ∗ (inSlot j).view.loc (c : Thread nD τ) ↦[(inSlot j).view.set]{fullShare} f)
/-- The semaphore of input slot `j`, at zero. -/
def inZero (j : Fin 8) : sProp 𝕄 := semVal ((c : Thread nD τ), SemLoc.dma (inCell j)) 0
/-- Block `j` and its slot with no copy between them under way. -/
def inIdle (j : Fin 8) : sProp 𝕄 := iprop(srcHas c X j ∗ slotAny c j ∗ inZero c j)
/-- The copy of block `j` into its slot, under way. -/
def inFlight (j : Fin 8) : sProp 𝕄 :=
  Transfers.Flight EC (c : Thread nD τ) (.dma (inCell j)) () (inSlot j).view.dmaCredit iprop(slotHas c X j ∗ srcHas c X j)
/-- Block `j` and its slot when the copy has landed. -/
def inLanded (j : Fin 8) : sProp 𝕄 := iprop(srcHas c X j ∗ slotHas c X j ∗ inZero c j)

/-- Output slot `s`, at any contents. -/
def outAny (s : Fin 2) : sProp 𝕄 := iprop(∃ f, (outSlot s).view.loc (c : Thread nD τ) ↦[(outSlot s).view.set]{fullShare} f)
/-- Output slot `s` with the first `n` planes of the result of the input block `P` in place. -/
def outPlanes (s : Fin 2) (P : S8x64x1024.Idx → F .f32) (n : ℕ) : sProp 𝕄 :=
  iprop(∃ f, ⌜Planes (outSlot s).view P n f⌝ ∗ (outSlot s).view.loc (c : Thread nD τ) ↦[(outSlot s).view.set]{fullShare} f)
/-- The semaphore of output slot `s`, at zero. -/
def outZero (s : Fin 2) : sProp 𝕄 := semVal ((c : Thread nD τ), SemLoc.dma (outCell s)) 0
/-- Output slot `s` with no copy out of it under way. -/
def outFree (s : Fin 2) : sProp 𝕄 := iprop(outAny c s ∗ outZero c s)
/-- Block `j` of the result array, at the contents `G`. -/
def dstHas (G : S64x3x64x1024.Idx → BitVec 32) (j : Fin 8) : sProp 𝕄 :=
  (dstBlk j).view.loc (c : Thread nD τ) ↦[(dstBlk j).view.set]{fullShare} G
/-- The copy of block `j` of the result out of its slot, under way. -/
def outFlight (j : Fin 8) : sProp 𝕄 :=
  Transfers.Flight EC (c : Thread nD τ) (.dma (outCell (par j))) () (dstBlk j).view.dmaCredit
    iprop(dstHas c (resultOf X) j ∗ outAny c (par j))

/-- The core's record of its waits, whatever it holds. -/
def owesAny : sProp 𝕄 := iprop(∃ W, owes (c : Thread nD τ) 0 W)

/-! ## The rules -/

variable {α : Type}

/-- A copy of block `j` into its slot is issued. -/
theorem wp_fetch (j : Fin 8) {o1 : Fin 1 → ℕ} {o2 : Fin 4 → ℕ} {o3 : Fin 3 → ℕ}
    (e1 : o1 = ![j.val]) (e2 : o2 = ![j.val, 0, 0, 0]) (e3 : o3 = ![8 * j.val, 0, 0])
    {h1 : ∀ a, o1 a + S1.size a ≤ S8.size a} {h2 : ∀ a, o2 a + S1x8x64x1024.size a ≤ S8x8x64x1024.size a}
    {h3 : ∀ a, o3 a + S8x64x1024.size a ≤ S64x64x1024.size a}
    {p2 p3 hsrc hdst hsem} {k : PUnit → Prog (TpuEff nD τ sig (Elt F) Λ₀ .tc) α} {Q : α → sProp 𝕄} :
    inIdle c X j ⊢ iprop((inFlight c X j -∗ wp frame (wpE (defs₀ (F := F)) Variants.none (c : Thread nD τ) none) Set.univ (k ⟨⟩) Q)
      -∗ wp frame (wpE (defs₀ (F := F)) Variants.none (c : Thread nD τ) none) Set.univ (.op (.enqueueDma (srcM.slice (Rect.unit (s := S64x64x1024) o3 S8x64x1024.size h3) p3)
          (.here ((inM.slice (Rect.unit (s := S8x8x64x1024) o2 S1x8x64x1024.size h2) p2).squeeze S8x64x1024 squeezes_S1x8x64x1024_S8x64x1024))
          (.dma ((cc0_scoped1.slice (Rect.unit (s := S8) o1 S1.size h1)).squeeze S_ squeezes_S1_S_).sem) hsrc hdst hsem) k) Q) := by
  subst e1 e2 e3
  unfold inIdle srcHas slotAny inZero
  iintro ⟨Hs, ⟨%f, Hd⟩, Hv⟩ Hk
  iapply (Transfers.wp_dmaLocal EC (defs := defs₀ (F := F)) Variants.none (c : Thread nD τ) none (src := srcBlk j) (dst := inSlot j) (sm := .dma (inCell j)) ()
    (inSlot j).view.dmaCredit rfl ((inSlot j).view.dmaCredit_pos (by decide)) (Finset.Subset.refl _)) $$ [Hs Hd Hv] [Hk]
  · isplitl [Hs]; · iexact Hs
    isplitl [Hd]; · iexact Hd
    iexact Hv
  iintro Hf
  iapply Hk
  unfold inFlight
  iapply (Transfers.Flight_mono EC (c : Thread nD τ) ?_) $$ Hf
  unfold slotHas srcHas
  iintro ⟨Hd, Hs⟩
  isplitl [Hd]
  · iexists _
    isplitr; swap; · iexact Hd
    ipureintro
    exact View.read_write_univ ..
  iexact Hs

/-- The wait for the copy of block `j` into its slot. -/
theorem wp_landed (j : Fin 8) {o1 : Fin 1 → ℕ} {o2 : Fin 4 → ℕ} {o3 : Fin 3 → ℕ}
    (e1 : o1 = ![j.val]) (e2 : o2 = ![j.val, 0, 0, 0]) (e3 : o3 = ![8 * j.val, 0, 0])
    {h1 : ∀ a, o1 a + S1.size a ≤ S8.size a} {h2 : ∀ a, o2 a + S1x8x64x1024.size a ≤ S8x8x64x1024.size a}
    {h3 : ∀ a, o3 a + S8x64x1024.size a ≤ S64x64x1024.size a}
    {p2 p3 hsrc hdst} {k : PUnit → Prog (TpuEff nD τ sig (Elt F) Λ₀ .tc) α} {Q : α → sProp 𝕄} :
    iprop(inFlight c X j ∗ owesAny c) ⊢ iprop((iprop(inLanded c X j ∗ owesAny c) -∗ wp frame (wpE (defs₀ (F := F)) Variants.none (c : Thread nD τ) none) Set.univ (k ⟨⟩) Q)
      -∗ wp frame (wpE (defs₀ (F := F)) Variants.none (c : Thread nD τ) none) Set.univ (.op (.waitDma2 ((cc0_scoped1.slice (Rect.unit (s := S8) o1 S1.size h1)).squeeze S_ squeezes_S1_S_).sem
          (srcM.slice (Rect.unit (s := S64x64x1024) o3 S8x64x1024.size h3) p3)
          ((inM.slice (Rect.unit (s := S8x8x64x1024) o2 S1x8x64x1024.size h2) p2).squeeze S8x64x1024 squeezes_S1x8x64x1024_S8x64x1024)
          hsrc hdst) k) Q) := by
  subst e1 e2 e3
  unfold inFlight owesAny
  iintro ⟨Hf, ⟨%W, HW⟩⟩ Hk
  iapply (Transfers.wp_waitLocal EC (defs := defs₀ (F := F)) Variants.none (c : Thread nD τ) none (sem := inCell j) (dstw := inSlot j) () rfl) $$ [Hf HW] [Hk]
  · isplitl [Hf]; · iexact Hf
    iexact HW
  iintro ⟨⟨Hd, Hs⟩, Hv, HW⟩
  iapply Hk
  unfold inLanded inZero
  isplitr [HW]
  · isplitl [Hs]; · iexact Hs
    isplitl [Hd]; · iexact Hd
    iexact Hv
  iexists _
  iexact HW

/-- The load of slot `j`: what is loaded is the input's block `j`. -/
theorem wp_loadSlot (j : Fin 8) {o : Fin 4 → ℕ} (e : o = ![j.val, 0, 0, 0])
    {h : ∀ a, o a + S1x8x64x1024.size a ≤ S8x8x64x1024.size a} {hl}
    {k : Vec F S1x8x64x1024 .f32 → Prog (TpuEff nD τ sig (Elt F) Λ₀ .tc) α} {Q : α → sProp 𝕄} :
    slotHas c X j ⊢ iprop((∀ v, ⌜k0_pay1 v = (srcBlk j).view.read (Elt F) X⌝ -∗ slotHas c X j -∗ wp frame (wpE (defs₀ (F := F)) Variants.none (c : Thread nD τ) none) Set.univ (k v) Q)
      -∗ wp frame (wpE (defs₀ (F := F)) Variants.none (c : Thread nD τ) none) Set.univ (.op (.load inM (Rect.unit (s := S8x8x64x1024) o S1x8x64x1024.size h).toLoadRect hl) k) Q) := by
  subst e
  unfold slotHas
  iintro ⟨%f, %hf, Hd⟩ Hk
  iapply (wp_load_rect (defs := defs₀ (F := F)) Variants.none (c : Thread nD τ) none Set.univ (m := inM)
    (r := Rect.unit (s := S8x8x64x1024) ![j.val, 0, 0, 0] S1x8x64x1024.size h) (S := (inSlot j).view.set)
    (by rw [show (inSlot j).view.set = (inSlot₁ j).view.set from View.set_reshape _ _])) $$ [Hd] [Hk]
  · iexact Hd
  iintro Hd
  ispecialize Hk $$ %((inSlot₁ j).view.read (Elt F) f)
  iapply Hk
  · ipureintro
    exact (pay1_inSlot j f).trans hf
  iexists _
  isplitr; swap; · iexact Hd
  ipureintro
  exact hf

/-- A load through an output slot reads what nothing uses. -/
theorem wp_loadOut (s : Fin 2) (P : S8x64x1024.Idx → F .f32) (n : ℕ) {o : Fin 5 → ℕ} (e : o = ![s.val, 0, 0, 0, 0])
    {h : ∀ a, o a + S1x8x3x64x1024.size a ≤ S2x8x3x64x1024.size a} {p}
    {r : Rect S8x3x64x1024} {hl}
    {k : (r.shape.Idx → Elt F .i32) → Prog (TpuEff nD τ sig (Elt F) Λ₀ .tc) α} {Q : α → sProp 𝕄} :
    outPlanes c s P n ⊢ iprop((∀ v, outPlanes c s P n -∗ wp frame (wpE (defs₀ (F := F)) Variants.none (c : Thread nD τ) none) Set.univ (k v) Q)
      -∗ wp frame (wpE (defs₀ (F := F)) Variants.none (c : Thread nD τ) none) Set.univ (.op (.load ((outM.slice (Rect.unit (s := S2x8x3x64x1024) o S1x8x3x64x1024.size h) p).squeeze S8x3x64x1024 squeezes_S1x8x3x64x1024_S8x3x64x1024)
          r.toLoadRect hl) k) Q) := by
  subst e
  unfold outPlanes
  iintro ⟨%f, %hf, Hd⟩ Hk
  iapply (wp_load_rect (defs := defs₀ (F := F)) Variants.none (c : Thread nD τ) none Set.univ (m := outSlot s) (r := r) (S := (outSlot s).view.set)
    (View.set_slice_subset _ _)) $$ [Hd] [Hk]
  · iexact Hd
  iintro Hd
  ispecialize Hk $$ %(((outSlot s).access r).read (Elt F) f)
  iapply Hk
  iexists _
  isplitr; swap; · iexact Hd
  ipureintro
  exact hf

/-- The store of plane `n`. -/
theorem wp_storePlane (s : Fin 2) (P : S8x64x1024.Idx → F .f32) (n : ℕ) {o : Fin 5 → ℕ} (e : o = ![s.val, 0, 0, 0, 0])
    {h : ∀ a, o a + S1x8x3x64x1024.size a ≤ S2x8x3x64x1024.size a} {p}
    {inb : ∀ a : Fin 4, (![0, n, 0, 0] : Fin 4 → ℕ) a + S8x1x64x1024.size a ≤ S8x3x64x1024.size a} {hx hm}
    {w : S8x1x64x1024.Idx → BitVec 32}
    (hw : ∀ (b : Fin 8) (z : Fin 1) (h : Fin 64) (c : Fin 1024), w (ix4 b z h c) = indicator (P (ix3 b h c)) n)
    {k : PUnit → Prog (TpuEff nD τ sig (Elt F) Λ₀ .tc) α} {Q : α → sProp 𝕄} :
    outPlanes c s P n ⊢ iprop((outPlanes c s P (n + 1) -∗ wp frame (wpE (defs₀ (F := F)) Variants.none (c : Thread nD τ) none) Set.univ (k ⟨⟩) Q)
      -∗ wp frame (wpE (defs₀ (F := F)) Variants.none (c : Thread nD τ) none) Set.univ (.op (.store ((outM.slice (Rect.unit (s := S2x8x3x64x1024) o S1x8x3x64x1024.size h) p).squeeze S8x3x64x1024 squeezes_S1x8x3x64x1024_S8x3x64x1024)
          (Rect.unit (s := S8x3x64x1024) ![0, n, 0, 0] S8x1x64x1024.size inb) w Finset.univ hx hm) k) Q) := by
  subst e
  unfold outPlanes
  iintro ⟨%f, %hf, Hd⟩ Hk
  iapply (wp_store (defs := defs₀ (F := F)) Variants.none (c : Thread nD τ) none Set.univ (m := outSlot s)
    (r := Rect.unit (s := S8x3x64x1024) ![0, n, 0, 0] S8x1x64x1024.size inb) (S := (outSlot s).view.set) (View.set_slice_subset _ _)) $$ [Hd] [Hk]
  · iexact Hd
  iintro Hd
  iapply Hk
  iexists _
  isplitr; swap; · iexact Hd
  ipureintro
  exact planes_store _ P n f inb w hw hf

/-- A block of the result written from a finished output slot holds the result there. -/
theorem dst_written (V : S64x3x64x1024.Idx → BitVec 32) (j : Fin 8) (f : S2x8x3x64x1024.Idx → BitVec 32)
    (hf : Planes (outSlot (par j)).view ((srcBlk j).view.read (Elt F) X) 3 f) :
    ((dstBlk j).view.loc (c : Thread nD τ) ↦[(dstBlk j).view.set]{fullShare}
        (dstBlk j).view.write (Elt F) V ((outSlot (par j)).view.read (Elt F) f) Finset.univ : sProp 𝕄)
      ⊢ dstHas c (resultOf X) j := by
  unfold dstHas
  rw [pointsTo_congr (g := resultOf X)]
  intro i hi
  obtain ⟨x, -, rfl⟩ := Finset.mem_map.mp hi
  refine View.eq_of_read_eq (Val := Elt F) (v := (dstBlk j).view) (x := x) ?_
  rw [View.read_write_univ, planes_three _ _ _ hf, dstBlk_resultOf]

/-- The copy of a finished output slot into block `j` of the result is issued. -/
theorem wp_send (V : S64x3x64x1024.Idx → BitVec 32) (j : Fin 8) {o1 : Fin 1 → ℕ} {o2 : Fin 5 → ℕ} {o3 : Fin 4 → ℕ}
    (e1 : o1 = ![(par j).val]) (e2 : o2 = ![(par j).val, 0, 0, 0, 0]) (e3 : o3 = ![8 * j.val, 0, 0, 0])
    {h1 : ∀ a, o1 a + S1.size a ≤ S2.size a} {h2 : ∀ a, o2 a + S1x8x3x64x1024.size a ≤ S2x8x3x64x1024.size a}
    {h3 : ∀ a, o3 a + S8x3x64x1024.size a ≤ S64x3x64x1024.size a}
    {p2 p3 hsrc hdst hsem} {k : PUnit → Prog (TpuEff nD τ sig (Elt F) Λ₀ .tc) α} {Q : α → sProp 𝕄} :
    iprop(outPlanes c (par j) ((srcBlk j).view.read (Elt F) X) 3 ∗ dstHas c V j ∗ outZero c (par j))
      ⊢ iprop((outFlight c X j -∗ wp frame (wpE (defs₀ (F := F)) Variants.none (c : Thread nD τ) none) Set.univ (k ⟨⟩) Q)
      -∗ wp frame (wpE (defs₀ (F := F)) Variants.none (c : Thread nD τ) none) Set.univ (.op (.enqueueDma ((outM.slice (Rect.unit (s := S2x8x3x64x1024) o2 S1x8x3x64x1024.size h2) p2).squeeze S8x3x64x1024 squeezes_S1x8x3x64x1024_S8x3x64x1024)
          (.here (dstM.slice (Rect.unit (s := S64x3x64x1024) o3 S8x3x64x1024.size h3) p3))
          (.dma ((cc0_scoped3.slice (Rect.unit (s := S2) o1 S1.size h1)).squeeze S_ squeezes_S1_S_).sem) hsrc hdst hsem) k) Q) := by
  subst e1 e2 e3
  unfold outPlanes dstHas outZero
  iintro ⟨⟨%f, %hf, Hs⟩, Hd, Hv⟩ Hk
  iapply (Transfers.wp_dmaLocal EC (defs := defs₀ (F := F)) Variants.none (c : Thread nD τ) none (src := outSlot (par j)) (dst := dstBlk j) (sm := .dma (outCell (par j))) ()
    (dstBlk j).view.dmaCredit rfl ((dstBlk j).view.dmaCredit_pos (by decide)) (Finset.Subset.refl _)) $$ [Hs Hd Hv] [Hk]
  · isplitl [Hs]; · iexact Hs
    isplitl [Hd]; · iexact Hd
    iexact Hv
  iintro Hf
  iapply Hk
  unfold outFlight
  iapply (Transfers.Flight_mono EC (c : Thread nD τ) ?_) $$ Hf
  unfold outAny
  iintro ⟨Hd, Hs⟩
  isplitl [Hd]
  · iapply (dst_written c X V j f hf)
    iexact Hd
  iexists _
  iexact Hs

/-- The wait for the copy of block `j` out of its slot. -/
theorem wp_sent (j : Fin 8) {o1 : Fin 1 → ℕ} {o2 : Fin 5 → ℕ} {o3 : Fin 4 → ℕ}
    (e1 : o1 = ![(par j).val]) (e2 : o2 = ![(par j).val, 0, 0, 0, 0]) (e3 : o3 = ![8 * j.val, 0, 0, 0])
    {h1 : ∀ a, o1 a + S1.size a ≤ S2.size a} {h2 : ∀ a, o2 a + S1x8x3x64x1024.size a ≤ S2x8x3x64x1024.size a}
    {h3 : ∀ a, o3 a + S8x3x64x1024.size a ≤ S64x3x64x1024.size a}
    {p2 p3 hsrc hdst} {k : PUnit → Prog (TpuEff nD τ sig (Elt F) Λ₀ .tc) α} {Q : α → sProp 𝕄} :
    iprop(outFlight c X j ∗ owesAny c)
      ⊢ iprop((iprop(dstHas c (resultOf X) j ∗ outFree c (par j) ∗ owesAny c) -∗ wp frame (wpE (defs₀ (F := F)) Variants.none (c : Thread nD τ) none) Set.univ (k ⟨⟩) Q)
      -∗ wp frame (wpE (defs₀ (F := F)) Variants.none (c : Thread nD τ) none) Set.univ (.op (.waitDma2 ((cc0_scoped3.slice (Rect.unit (s := S2) o1 S1.size h1)).squeeze S_ squeezes_S1_S_).sem
          ((outM.slice (Rect.unit (s := S2x8x3x64x1024) o2 S1x8x3x64x1024.size h2) p2).squeeze S8x3x64x1024 squeezes_S1x8x3x64x1024_S8x3x64x1024)
          (dstM.slice (Rect.unit (s := S64x3x64x1024) o3 S8x3x64x1024.size h3) p3)
          hsrc hdst) k) Q) := by
  subst e1 e2 e3
  unfold outFlight owesAny
  iintro ⟨Hf, ⟨%W, HW⟩⟩ Hk
  iapply (Transfers.wp_waitLocal EC (defs := defs₀ (F := F)) Variants.none (c : Thread nD τ) none (sem := outCell (par j)) (dstw := dstBlk j) () rfl) $$ [Hf HW] [Hk]
  · isplitl [Hf]; · iexact Hf
    iexact HW
  iintro ⟨⟨Hd, Hs⟩, Hv, HW⟩
  iapply Hk
  unfold outFree outZero
  isplitl [Hd]; · iexact Hd
  isplitl [Hs Hv]
  · isplitl [Hs]; · iexact Hs
    iexact Hv
  iexists _
  iexact HW

end Cert.KernelIdeal.Pipe
-- ==== Proof.Pipe.State.lean ====
/- What the core holds before each trip: which input blocks are under way into their slots, which blocks of the result
   have been written, and how a transfer moves one block on. -/
module

public import proofs.«01_k».proof.Proof.Pipe.Rules

@[expose] public section

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (X : S64x64x1024.Idx → F .f32) (V : S64x3x64x1024.Idx → BitVec 32)

/-! ## The input blocks -/

/-- The input blocks with the copies of blocks `lo` to `hi - 1` under way. -/
def Ins (lo hi : ℕ) : sProp 𝕄 :=
  bigSep Finset.univ fun j : Fin 8 => if lo ≤ j.val ∧ j.val < hi then inFlight c X j else inIdle c X j

/-- One more copy may be issued. -/
theorem ins_fetch (lo : ℕ) (j : Fin 8) (h : lo ≤ j.val) : Ins c X lo j.val ⊢ iprop(inIdle c X j ∗ (inFlight c X j -∗ Ins c X lo (j.val + 1))) := by
  have h1 := BI.bigSep_univ_update (M := 𝕄) (Φ := fun i : Fin 8 => if lo ≤ i.val ∧ i.val < j.val then inFlight c X i else inIdle c X i)
    (Ψ := fun i : Fin 8 => if lo ≤ i.val ∧ i.val < j.val + 1 then inFlight c X i else inIdle c X i) j (fun i hi => by
      have : i.val ≠ j.val := fun h => hi (Fin.ext h)
      refine if_congr ?_ rfl rfl
      omega)
  rw [if_neg (by omega), if_pos (by omega)] at h1
  exact h1

/-- The first copy under way may be waited for. -/
theorem ins_landed (hi : ℕ) (j : Fin 8) (h : j.val < hi) : Ins c X j.val hi ⊢ iprop(inFlight c X j ∗ (inIdle c X j -∗ Ins c X (j.val + 1) hi)) := by
  have h1 := BI.bigSep_univ_update (M := 𝕄) (Φ := fun i : Fin 8 => if j.val ≤ i.val ∧ i.val < hi then inFlight c X i else inIdle c X i)
    (Ψ := fun i : Fin 8 => if j.val + 1 ≤ i.val ∧ i.val < hi then inFlight c X i else inIdle c X i) j (fun i hi => by
      have : i.val ≠ j.val := fun h => hi (Fin.ext h)
      refine if_congr ?_ rfl rfl
      omega)
  rw [if_pos (by omega), if_neg (by omega)] at h1
  exact h1

/-- A landed block whose slot has been read is idle again. -/
theorem idle_of_landed (j : Fin 8) : iprop(srcHas c X j ∗ slotHas c X j ∗ inZero c j) ⊢ inIdle c X j := by
  unfold inIdle slotHas slotAny
  iintro ⟨Hs, ⟨%f, -, Hd⟩, Hv⟩
  isplitl [Hs]; · iexact Hs
  isplitl [Hd]; · iexists _; iexact Hd
  iexact Hv

/-! ## The result's blocks -/

/-- The result's blocks: those below `lo` hold the result, those from `lo` to `hi - 1` are lent to the copies that write
    them, the rest hold what they held. -/
def Outs (lo hi : ℕ) : sProp 𝕄 :=
  bigSep Finset.univ fun j : Fin 8 => if j.val < lo then dstHas c (resultOf X) j else if j.val < hi then iprop(emp) else dstHas c V j

/-- The next block may be lent. -/
theorem outs_lend (lo : ℕ) (j : Fin 8) (h : lo ≤ j.val) : Outs c X V lo j.val ⊢ iprop(dstHas c V j ∗ Outs c X V lo (j.val + 1)) := by
  have h1 := BI.bigSep_univ_update (M := 𝕄) (Φ := fun i : Fin 8 => if i.val < lo then dstHas c (resultOf X) i else if i.val < j.val then iprop(emp) else dstHas c V i)
    (Ψ := fun i : Fin 8 => if i.val < lo then dstHas c (resultOf X) i else if i.val < j.val + 1 then iprop(emp) else dstHas c V i) j (fun i hi => by
      have : i.val ≠ j.val := fun h => hi (Fin.ext h)
      refine if_congr Iff.rfl rfl (if_congr ?_ rfl rfl)
      omega)
  rw [if_neg (by omega), if_neg (by omega), if_neg (by omega), if_pos (by omega)] at h1
  unfold Outs
  refine h1.trans ?_
  iintro ⟨H, Hk⟩
  isplitl [H]; · iexact H
  iapply Hk
  iempintro

/-- The first lent block is given back, written. -/
theorem outs_return (hi : ℕ) (j : Fin 8) (h : j.val < hi) : iprop(Outs c X V j.val hi ∗ dstHas c (resultOf X) j) ⊢ Outs c X V (j.val + 1) hi := by
  have h1 := BI.bigSep_univ_update (M := 𝕄) (Φ := fun i : Fin 8 => if i.val < j.val then dstHas c (resultOf X) i else if i.val < hi then iprop(emp) else dstHas c V i)
    (Ψ := fun i : Fin 8 => if i.val < j.val + 1 then dstHas c (resultOf X) i else if i.val < hi then iprop(emp) else dstHas c V i) j (fun i hi => by
      have : i.val ≠ j.val := fun h => hi (Fin.ext h)
      refine if_congr ?_ rfl rfl
      omega)
  rw [if_neg (by omega), if_pos (by omega), if_pos (by omega)] at h1
  unfold Outs
  iintro ⟨H, Hd⟩
  icases h1 $$ H with ⟨-, Hk⟩
  iapply Hk
  iexact Hd

/-! ## The output slots -/

/-- Beside the slot that trip `k` writes: before trip 0 the other slot, free; before a later trip the copy of the result of
    the trip before, under way out of the other slot. -/
def Rest (k : ℕ) : sProp 𝕄 :=
  if k = 0 then outFree c 1 else outFlight c X ⟨(k - 1) % 8, Nat.mod_lt _ (by decide)⟩

/-- What the core holds before trip `k`, but for the carried words. -/
def Before (k : ℕ) : sProp 𝕄 :=
  iprop(Ins c X k (if k = 0 then 7 else 8) ∗ Outs c X V (k - 1) k ∗ outFree c ⟨k % 2, Nat.mod_lt _ (by decide)⟩ ∗ Rest c X k ∗ owesAny c)

/-- The loop's invariant: the state before trip `k` and the carried words. -/
def Inv (k : ℕ) (acc : BitVec 32 × BitVec 32 × BitVec 32 × BitVec 32 × BitVec 32) : sProp 𝕄 :=
  iprop(⌜acc = carry k⌝ ∗ Before c X V k)

end Cert.KernelIdeal.Pipe
-- ==== Proof.Pipe.Trip.lean ====
/- One trip of the pipeline: from the state before trip `k` to the state before trip `k + 1`. -/
module

public import proofs.«01_k».proof.Proof.Pipe.State

@[expose] public section

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (X : S64x64x1024.Idx → F .f32) (V : S64x3x64x1024.Idx → BitVec 32)

/-- A transfer under a condition, when both ways lead from `R` to `R'`. -/
theorem wp_when {α β : Type} {p : Prop} [Decidable p] {A : p → Prog (TpuEff nD τ sig (Elt F) Λ₀ .tc) β} {w : β}
    {rest : β → Prog (TpuEff nD τ sig (Elt F) Λ₀ .tc) α} {Q : α → sProp 𝕄} {R R' : sProp 𝕄}
    (hp : ∀ h : p, R ⊢ wp frame (wpE (defs₀ (F := F)) Variants.none (c : Thread nD τ) none) Set.univ (A h) fun r => iprop(⌜r = w⌝ ∗ R')) (hn : ¬ p → R ⊢ R') :
    R ⊢ iprop((R' -∗ wp frame (wpE (defs₀ (F := F)) Variants.none (c : Thread nD τ) none) Set.univ (rest w) Q) -∗ wp frame (wpE (defs₀ (F := F)) Variants.none (c : Thread nD τ) none) Set.univ ((dite p A fun _ => .ret w) >>= rest) Q) := by
  by_cases h : p
  · rw [dif_pos h, wp_bind]
    iintro HR Hk
    icases (hp h) $$ HR with HR
    iapply (wp_wand frame (wpE (defs₀ (F := F)) Variants.none (c : Thread nD τ) none) Set.univ) $$ HR
    iintro %a ⟨%ha, HR⟩
    subst ha
    iapply Hk
    iexact HR
  · rw [dif_neg h, Prog.bind_ret]
    iintro HR Hk
    iapply Hk
    iapply (hn h)
    iexact HR

/-- A slot at any contents has none of its planes in place yet. -/
theorem planes_of_any (s : Fin 2) (P : S8x64x1024.Idx → F .f32) : outAny c s ⊢ outPlanes c s P 0 := by
  unfold outAny outPlanes
  iintro ⟨%f, H⟩
  iexists f
  isplitr; swap; · iexact H
  ipureintro
  exact planes_zero _ P f

/-- The loop's region at the kernel's operands. -/
abbrev body (v86 : BitVec 32) (v88 : BitVec 1) (v92 : BitVec 32) :=
  k0_t1_body (F := F) srcM (Memref.isWhole_whole _) dstM (Memref.isWhole_whole _) inM (Memref.isWhole_whole _) cc0_scoped1
    outM (Memref.isWhole_whole _) cc0_scoped3 v86 v88 v92

/-- One trip: it fetches (in trip 0 the last block), waits for its block, computes its result into the free slot, sends it,
    and waits for the result of the trip before. -/
theorem trip (v86 : BitVec 32) (v88 : BitVec 1) (v92 : BitVec 32) (k : Fin k0_t1_loop.trips)
    (acc : BitVec 32 × BitVec 32 × BitVec 32 × BitVec 32 × BitVec 32) :
    Inv c X V k.val acc ⊢ wp frame (wpE (defs₀ (F := F)) Variants.none (c : Thread nD τ) none) Set.univ (body v86 v88 v92 k acc) (Inv c X V (k.val + 1)) := by
  unfold Inv
  iintro ⟨%hacc, H⟩
  subst hacc
  unfold body k0_t1_body carry
  simp only [k0_part1_eq_skeleton, k0_part2_eq_skeleton, k0_part3_eq_skeleton, k0_part4_eq_skeleton]
  unfold k0_part1_skel
  simp only [Prog.bind_lift, Prog.bind_op, Prog.bind_ret, Prog.pure_eq_ret, bind_assoc]
  iapply (wp_assume _ _ _ _ (chk3 k))
  iapply (wp_assume _ _ _ _ (chk2 k))
  iapply (wp_assume _ _ _ _ (chk1 k))
  unfold k0_part2_skel
  simp only [Prog.bind_lift, Prog.bind_op, Prog.bind_ret, Prog.pure_eq_ret, bind_assoc]
  unfold Before
  icases H with ⟨HI, HO, HF, HR, HW⟩
  -- the last fetch
  iapply (wp_when c (R := Ins c X k.val (if k.val = 0 then 7 else 8)) (R' := Ins c X k.val 8) ?_ ?_) $$ HI
  · intro h
    have hk := (cond7 k).1 h
    rw [if_pos hk]
    iintro HI
    icases (show Ins c X k.val 7 ⊢ iprop(inIdle c X 7 ∗ (inFlight c X 7 -∗ Ins c X k.val 8)) from
      ins_fetch c X k.val (7 : Fin 8) (by show k.val ≤ 7; omega)) $$ HI with ⟨Hi, HI⟩
    iapply (wp_fetch c X (7 : Fin 8) (by rw [if_pos hk]; exact off21) (by rw [if_pos hk]; exact off22) (by rw [hk]; exact off23)) $$ Hi
    iintro Hf
    iapply (le_wp_ret frame)
    isplitr
    · ipureintro; rfl
    iapply HI
    iexact Hf
  · intro h
    rw [if_neg (fun h' => h ((cond7 k).2 h'))]
  iintro HI
  unfold k0_part3_skel
  simp only [Prog.bind_lift, Prog.bind_op, Prog.bind_ret, Prog.pure_eq_ret, bind_assoc, dif_pos (cond8 k), ite_self]
  -- the wait for the trip's block
  icases (ins_landed c X 8 ⟨k.val, lt8 k⟩ (lt8 k)) $$ HI with ⟨Hf, HI⟩
  iapply (wp_landed c X ⟨k.val, lt8 k⟩ (off24 k) (off25 k) (off26 k)) $$ [Hf HW]
  · isplitl [Hf]; · iexact Hf
    iexact HW
  iintro ⟨Hl, HW⟩
  unfold inLanded
  icases Hl with ⟨Hs, Hl, Hz⟩
  -- the block is loaded
  iapply (wp_loadSlot c X ⟨k.val, lt8 k⟩ (off27 k)) $$ Hl
  iintro %v %hv Hl
  ihave Hi := (idle_of_landed c X ⟨k.val, lt8 k⟩) $$ [Hs Hl Hz]
  · isplitl [Hs]; · iexact Hs
    isplitl [Hl]; · iexact Hl
    iexact Hz
  ihave HI := HI $$ Hi
  -- the three planes are stored
  icases (show outFree c ⟨k.val % 2, Nat.mod_lt _ (by decide)⟩ ⊢ iprop(outAny c (par ⟨k.val, lt8 k⟩) ∗ outZero c (par ⟨k.val, lt8 k⟩)) from .rfl)
    $$ HF with ⟨HF, HZ⟩
  ihave HF := (planes_of_any c (par ⟨k.val, lt8 k⟩) ((srcBlk ⟨k.val, lt8 k⟩).view.read (Elt F) X)) $$ HF
  unfold k0_part4_skel
  simp only [Prog.bind_lift, Prog.bind_op, Prog.bind_ret, Prog.pure_eq_ret, bind_assoc, dif_pos (cond11 k), ite_self]
  iapply (wp_loadOut c (par ⟨k.val, lt8 k⟩) _ 0 (off28 k)) $$ HF
  iintro %_ HF
  iapply (wp_storePlane c (par ⟨k.val, lt8 k⟩) _ 0 (off28 k) (fun b z h w => by rw [← hv]; exact pay6_apply v b z h w)) $$ HF
  iintro HF
  iapply (wp_loadOut c (par ⟨k.val, lt8 k⟩) _ 1 (off28 k)) $$ HF
  iintro %_ HF
  iapply (wp_storePlane c (par ⟨k.val, lt8 k⟩) _ 1 (off28 k) (fun b z h w => by rw [← hv]; exact pay8_apply v b z h w)) $$ HF
  iintro HF
  iapply (wp_loadOut c (par ⟨k.val, lt8 k⟩) _ 2 (off28 k)) $$ HF
  iintro %_ HF
  iapply (wp_storePlane c (par ⟨k.val, lt8 k⟩) _ 2 (off28 k) (fun b z h w => by rw [← hv]; exact pay9_apply v b z h w)) $$ HF
  iintro HF
  -- the result is sent
  icases (outs_lend c X V (k.val - 1) ⟨k.val, lt8 k⟩ (Nat.sub_le _ _)) $$ HO with ⟨Hd, HO⟩
  iapply (wp_send c X V ⟨k.val, lt8 k⟩ (off29 k) (off31 k) (off30 k)) $$ [HF Hd HZ]
  · isplitl [HF]; · iexact HF
    isplitl [Hd]; · iexact Hd
    iexact HZ
  iintro Hfl
  -- the result sent the trip before is waited for
  have hpar : par ⟨k.val - 1, lt_of_le_of_lt (Nat.sub_le _ _) (lt8 k)⟩ = ⟨(k.val + 1) % 2, Nat.mod_lt _ (by decide)⟩ ∨ k.val = 0 := by
    rcases Nat.eq_zero_or_pos k.val with h | h
    · exact Or.inr h
    · exact Or.inl (Fin.ext (by show (k.val - 1) % 2 = (k.val + 1) % 2; omega))
  have hnext : outFlight c X ⟨k.val, lt8 k⟩ ⊢ Rest c X (k.val + 1) := by
    unfold Rest
    rw [if_neg (Nat.succ_ne_zero _), show (⟨(k.val + 1 - 1) % 8, Nat.mod_lt _ (by decide)⟩ : Fin 8) = ⟨k.val, lt8 k⟩ from
      Fin.ext (by show (k.val + 1 - 1) % 8 = k.val; have := lt8 k; omega)]
  rw [if_neg (Nat.succ_ne_zero k.val), Nat.add_sub_cancel]
  by_cases hk : k.val = 0
  · rw [dif_neg (fun h => (cond13 k).1 h hk)]
    iapply (le_wp_ret frame)
    isplitr
    · ipureintro
      clear * - k
      revert k
      decide +kernel
    isplitl [HI]; · iexact HI
    isplitl [HO]
    · iapply (show Outs c X V (k.val - 1) (k.val + 1) ⊢ Outs c X V k.val (k.val + 1) from by rw [hk])
      iexact HO
    isplitl [HR]
    · iapply (show Rest c X k.val ⊢ outFree c ⟨(k.val + 1) % 2, Nat.mod_lt _ (by decide)⟩ from by
        unfold Rest
        rw [if_pos hk, show (⟨(k.val + 1) % 2, Nat.mod_lt _ (by decide)⟩ : Fin 2) = 1 from
          Fin.ext (by show (k.val + 1) % 2 = 1; rw [hk])])
      iexact HR
    isplitl [Hfl]
    · iapply hnext
      iexact Hfl
    iexact HW
  · rw [dif_pos ((cond13 k).2 hk)]
    iapply (wp_sent c X ⟨k.val - 1, lt_of_le_of_lt (Nat.sub_le _ _) (lt8 k)⟩ (off32 k hk) (off34 k hk) (off33 k hk)) $$ [HR HW]
    · isplitl [HR]
      · iapply (show Rest c X k.val ⊢ outFlight c X ⟨k.val - 1, lt_of_le_of_lt (Nat.sub_le _ _) (lt8 k)⟩ from by
          unfold Rest
          rw [if_neg hk, show (⟨(k.val - 1) % 8, Nat.mod_lt _ (by decide)⟩ : Fin 8) = ⟨k.val - 1, lt_of_le_of_lt (Nat.sub_le _ _) (lt8 k)⟩ from
            Fin.ext (by show (k.val - 1) % 8 = k.val - 1; have := lt8 k; omega)])
        iexact HR
      iexact HW
    iintro ⟨Hd, HF, HW⟩
    iapply (le_wp_ret frame)
    isplitr
    · ipureintro
      clear * - k
      revert k
      decide +kernel
    isplitl [HI]; · iexact HI
    isplitl [HO Hd]
    · iapply (show iprop(Outs c X V (k.val - 1) (k.val + 1) ∗ dstHas c (resultOf X) ⟨k.val - 1, lt_of_le_of_lt (Nat.sub_le _ _) (lt8 k)⟩)
          ⊢ Outs c X V k.val (k.val + 1) from by
        have h := outs_return c X V (k.val + 1) ⟨k.val - 1, lt_of_le_of_lt (Nat.sub_le _ _) (lt8 k)⟩ (by show k.val - 1 < k.val + 1; omega)
        rwa [show (⟨k.val - 1, lt_of_le_of_lt (Nat.sub_le _ _) (lt8 k)⟩ : Fin 8).val + 1 = k.val from Nat.sub_add_cancel (Nat.pos_of_ne_zero hk)] at h)
      isplitl [HO]; · iexact HO
      iexact Hd
    isplitl [HF]
    · iapply (show outFree c (par ⟨k.val - 1, lt_of_le_of_lt (Nat.sub_le _ _) (lt8 k)⟩) ⊢ outFree c ⟨(k.val + 1) % 2, Nat.mod_lt _ (by decide)⟩ from by
        rw [hpar.resolve_right hk])
      iexact HF
    isplitl [Hfl]
    · iapply hnext
      iexact Hfl
    iexact HW

end Cert.KernelIdeal.Pipe
-- ==== Proof.Pipe.Body.lean ====
/- The kernel's body: seven copies are issued, eight trips are run, the last result is waited for. -/
module

public import proofs.«01_k».proof.Proof.Pipe.Trip

@[expose] public section

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (X : S64x64x1024.Idx → F .f32) (V : S64x3x64x1024.Idx → BitVec 32)

/-- The copies of blocks 0 to `n - 1` are under way; block `n`'s is issued. -/
theorem fetch_next {α : Type} (n : ℕ) (hn : n < 8) {o1 : Fin 1 → ℕ} {o2 : Fin 4 → ℕ} {o3 : Fin 3 → ℕ}
    (e1 : o1 = ![n]) (e2 : o2 = ![n, 0, 0, 0]) (e3 : o3 = ![8 * n, 0, 0])
    {h1 : ∀ a, o1 a + S1.size a ≤ S8.size a} {h2 : ∀ a, o2 a + S1x8x64x1024.size a ≤ S8x8x64x1024.size a}
    {h3 : ∀ a, o3 a + S8x64x1024.size a ≤ S64x64x1024.size a}
    {p2 p3 hsrc hdst hsem} {k : PUnit → Prog (TpuEff nD τ sig (Elt F) Λ₀ .tc) α} {Q : α → sProp 𝕄} :
    Ins c X 0 n ⊢ iprop((Ins c X 0 (n + 1) -∗ wp frame (wpE (defs₀ (F := F)) Variants.none (c : Thread nD τ) none) Set.univ (k ⟨⟩) Q)
      -∗ wp frame (wpE (defs₀ (F := F)) Variants.none (c : Thread nD τ) none) Set.univ (.op (.enqueueDma (srcM.slice (Rect.unit (s := S64x64x1024) o3 S8x64x1024.size h3) p3)
          (.here ((inM.slice (Rect.unit (s := S8x8x64x1024) o2 S1x8x64x1024.size h2) p2).squeeze S8x64x1024 squeezes_S1x8x64x1024_S8x64x1024))
          (.dma ((cc0_scoped1.slice (Rect.unit (s := S8) o1 S1.size h1)).squeeze S_ squeezes_S1_S_).sem) hsrc hdst hsem) k) Q) := by
  iintro HI Hk
  icases (ins_fetch c X 0 ⟨n, hn⟩ (Nat.zero_le _)) $$ HI with ⟨Hi, HI⟩
  iapply (wp_fetch c X ⟨n, hn⟩ e1 e2 e3) $$ Hi
  iintro Hf
  iapply Hk
  iapply HI
  iexact Hf

/-- What the body needs and gives back, when the blocks below `n` are the result's. -/
def Held (n : ℕ) : sProp 𝕄 :=
  iprop(Ins c X n n ∗ Outs c X V n n ∗ outFree c 0 ∗ outFree c 1 ∗ owesAny c)

/-- What the invariant says after the last trip. -/
theorem inv_last (acc : BitVec 32 × BitVec 32 × BitVec 32 × BitVec 32 × BitVec 32) :
    Inv c X V k0_t1_loop.trips acc ⊢ iprop(⌜acc = carry 8⌝ ∗ Ins c X 8 8 ∗ Outs c X V 7 8 ∗ outFree c 0 ∗ outFlight c X 7 ∗ owesAny c) := by
  rw [trips_eq]
  exact .rfl

/-- The body computes every block of the result. -/
theorem run_body (t : Fin cfg0.N) : Held c X V 0 ⊢ wp frame (wpE (defs₀ (F := F)) Variants.none (c : Thread nD τ) none) Set.univ (bodyAt0 t) (fun _ => Held c X V 8) := by
  unfold Held bodyAt0
  rw [cc0__outer_eq_skeleton]
  unfold cc0__outer_skel
  simp only [k0_part5_eq_skeleton, k0_part6_eq_skeleton, k0_part7_eq_skeleton, k0_part8_eq_skeleton, k0_part9_eq_skeleton]
  unfold k0_part5_skel k0_part6_skel k0_part7_skel
  simp only [Prog.bind_lift, Prog.bind_op, Prog.bind_ret, Prog.pure_eq_ret, bind_assoc, dif_pos cond1, dif_pos cond2, dif_pos cond3,
    dif_pos cond4, dif_pos cond5, dif_pos cond6]
  iintro ⟨HI, HO, HF, HR, HW⟩
  iapply (fetch_next c X 0 (by decide) k0_off1_eq k0_off2_eq rfl) $$ HI
  iintro HI
  iapply (fetch_next c X 1 (by decide) k0_off3_eq k0_off4_eq k0_off5_eq) $$ HI
  iintro HI
  iapply (fetch_next c X 2 (by decide) k0_off6_eq k0_off7_eq k0_off8_eq) $$ HI
  iintro HI
  iapply (fetch_next c X 3 (by decide) k0_off9_eq k0_off10_eq k0_off11_eq) $$ HI
  iintro HI
  iapply (fetch_next c X 4 (by decide) k0_off12_eq k0_off13_eq k0_off14_eq) $$ HI
  iintro HI
  iapply (fetch_next c X 5 (by decide) k0_off15_eq k0_off16_eq k0_off17_eq) $$ HI
  iintro HI
  iapply (fetch_next c X 6 (by decide) k0_off18_eq k0_off19_eq k0_off20_eq) $$ HI
  iintro HI
  unfold k0_part8_skel
  simp only [Prog.bind_lift, Prog.bind_op, Prog.bind_ret, Prog.pure_eq_ret, bind_assoc]
  iapply (Scf.wp_for_bind frame (wpE (defs₀ (F := F)) Variants.none (c : Thread nD τ) none) Set.univ _ _ _ _ _ _ (Inv c X V)
    (trip c X V _ _ _)) $$ [HI HO HF HR HW]
  · unfold Inv Before Rest
    isplitr
    · ipureintro
      decide +kernel
    rw [if_pos rfl, if_pos rfl]
    isplitl [HI]; · iexact HI
    isplitl [HO]; · iexact HO
    isplitl [HF]; · iexact HF
    isplitl [HR]; · iexact HR
    iexact HW
  iintro %acc H
  icases (inv_last c X V acc) $$ H with ⟨%hacc, HI, HO, HF, HR, HW⟩
  subst hacc
  iapply (wp_assume _ _ _ _ chk5)
  iapply (wp_assume _ _ _ _ chk4)
  unfold k0_part9_skel
  simp only [Prog.bind_lift, Prog.bind_op, Prog.bind_ret, Prog.pure_eq_ret, bind_assoc]
  iapply (wp_sent c X (7 : Fin 8) off35 off37 off36) $$ [HR HW]
  · isplitl [HR]; · iexact HR
    iexact HW
  iintro ⟨Hd, HR, HW⟩
  iapply (le_wp_ret frame)
  isplitl [HI]; · iexact HI
  isplitl [HO Hd]
  · iapply (show iprop(Outs c X V 7 8 ∗ dstHas c (resultOf X) 7) ⊢ Outs c X V 8 8 from outs_return c X V 8 7 (by decide))
    isplitl [HO]; · iexact HO
    iexact Hd
  isplitl [HF]; · iexact HF
  isplitl [HR]; · iexact HR
  iexact HW

end Cert.KernelIdeal.Pipe
-- ==== Proof.Pipe.Whole.lean ====
/- The pieces that the body works on, put together: the arrays and the rings whole, the semaphores at zero. -/
module

public import proofs.«01_k».proof.Proof.Pipe.Body

@[expose] public section

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (X : S64x64x1024.Idx → F .f32) (V G : S64x3x64x1024.Idx → BitVec 32)

/-- The arrays and the rings whole and the semaphores at zero: the transposed input at `X`, the result at `G`. -/
def Whole : sProp 𝕄 :=
  iprop(((∃ f : Buf (Elt F) ((c : Thread nD τ).loc cc0_scoped0), ((c : Thread nD τ).loc cc0_scoped0) ↦{fullShare} f)
      ∗ (∃ f : Buf (Elt F) ((c : Thread nD τ).loc cc0_scoped2), ((c : Thread nD τ).loc cc0_scoped2) ↦{fullShare} f))
    ∗ (bigSep Finset.univ (fun j : Fin 8 => inZero (F := F) c j) ∗ bigSep Finset.univ (fun s : Fin 2 => outZero (F := F) c s))
    ∗ (((c : Thread nD τ).loc main_v0) ↦{fullShare} X)
    ∗ (((c : Thread nD τ).loc main_v1) ↦{fullShare} G))

/-- Two slots, each on its own. -/
theorem bigSep_two (Φ : Fin 2 → sProp 𝕄) : bigSep Finset.univ Φ = iprop(Φ 0 ∗ Φ 1) := bigSep_fin_two Φ

/-! ## An array cut into pieces told apart by a number of their elements -/

section Cut

variable {ℓ : Loc nD τ sig} {m : ℕ} (J : Fin m → Finset (Idx ℓ)) (n : Idx ℓ → ℕ) (h : ∀ j i, i ∈ J j ↔ n i = j.val) (hn : ∀ i, n i < m)

include h hn in
/-- The pieces at the array's contents are the array. -/
theorem cut_eq (f : Buf (Elt F) ℓ) : (bigSep Finset.univ (fun j => ℓ ↦[J j]{fullShare} f) : sProp 𝕄) = (ℓ ↦{fullShare} f) :=
  (Ring.pointsTo_blocks J (disjoint_of_num (v := fun j : Fin m => j.val) Fin.val_injective h) (cover_of_num h hn) f).symm

include h hn in
/-- An array at some contents falls into pieces, each at some contents. -/
theorem cut_any : iprop(∃ f : Buf (Elt F) ℓ, ℓ ↦{fullShare} f) ⊢ (bigSep Finset.univ (fun j => iprop(∃ f : Buf (Elt F) ℓ, ℓ ↦[J j]{fullShare} f)) : sProp 𝕄) := by
  have one (f : Buf (Elt F) ℓ) (j : Fin m) : (ℓ ↦[J j]{fullShare} f : sProp 𝕄) ⊢ iprop(∃ f : Buf (Elt F) ℓ, ℓ ↦[J j]{fullShare} f) := by
    iintro H
    iexists f
    iexact H
  iintro ⟨%f, H⟩
  iapply ((Entails.of_eq (cut_eq J n h hn f).symm).trans (bigSep_mono fun j _ => one f j))
  iexact H

include h hn in
/-- Pieces at some contents each make the array at some contents. -/
theorem join_any (f₀ : Buf (Elt F) ℓ) : (bigSep Finset.univ (fun j => iprop(∃ f : Buf (Elt F) ℓ, ℓ ↦[J j]{fullShare} f)) : sProp 𝕄) ⊢ iprop(∃ f : Buf (Elt F) ℓ, ℓ ↦{fullShare} f) :=
  Ring.pointsTo_blocks_join_exists J (disjoint_of_num (v := fun j : Fin m => j.val) Fin.val_injective h) (cover_of_num h hn) f₀

end Cut

/-- The number that tells the blocks of an array apart is below their count. -/
theorem src_below (i : S64x64x1024.Idx) : (i 0).val / 8 < 8 := by have : (i 0).val < 64 := (i 0).isLt; omega
theorem dst_below (i : S64x3x64x1024.Idx) : (i 0).val / 8 < 8 := by have : (i 0).val < 64 := (i 0).isLt; omega
theorem in_below (i : S8x8x64x1024.Idx) : (i 0).val < 8 := (i 0).isLt
theorem out_below (i : S2x8x3x64x1024.Idx) : (i 0).val < 2 := (i 0).isLt

/-- The blocks of the transposed input are the array whole. -/
theorem src_whole : (bigSep Finset.univ (fun j : Fin 8 => srcHas c X j) : sProp 𝕄) = (((c : Thread nD τ).loc main_v0) ↦{fullShare} X) :=
  cut_eq (ℓ := (c : Thread nD τ).loc main_v0) srcSet (fun i : S64x64x1024.Idx => (i 0).val / 8) mem_srcBlk src_below X

/-- The blocks of the result are the array whole. -/
theorem dst_whole : (bigSep Finset.univ (fun j : Fin 8 => dstHas c G j) : sProp 𝕄) = (((c : Thread nD τ).loc main_v1) ↦{fullShare} G) :=
  cut_eq (ℓ := (c : Thread nD τ).loc main_v1) dstSet (fun i : S64x3x64x1024.Idx => (i 0).val / 8) mem_dstBlk dst_below G

/-- The input ring falls into its slots. -/
theorem slots_split : iprop(∃ f : Buf (Elt F) ((c : Thread nD τ).loc cc0_scoped0), ((c : Thread nD τ).loc cc0_scoped0) ↦{fullShare} f)
    ⊢ (bigSep Finset.univ (fun j : Fin 8 => slotAny (F := F) c j) : sProp 𝕄) :=
  cut_any (ℓ := (c : Thread nD τ).loc cc0_scoped0) inSet (fun i : S8x8x64x1024.Idx => (i 0).val) mem_inSlot in_below

/-- The input slots make the ring. -/
theorem slots_join : (bigSep Finset.univ (fun j : Fin 8 => slotAny (F := F) c j) : sProp 𝕄)
    ⊢ iprop(∃ f : Buf (Elt F) ((c : Thread nD τ).loc cc0_scoped0), ((c : Thread nD τ).loc cc0_scoped0) ↦{fullShare} f) :=
  join_any (ℓ := (c : Thread nD τ).loc cc0_scoped0) inSet (fun i : S8x8x64x1024.Idx => (i 0).val) mem_inSlot in_below (fun _ => Scalar.ofBits .f32 0x00000000#32)

/-- The output ring falls into its slots. -/
theorem outs_split : iprop(∃ f : Buf (Elt F) ((c : Thread nD τ).loc cc0_scoped2), ((c : Thread nD τ).loc cc0_scoped2) ↦{fullShare} f)
    ⊢ (bigSep Finset.univ (fun s : Fin 2 => outAny (F := F) c s) : sProp 𝕄) :=
  cut_any (ℓ := (c : Thread nD τ).loc cc0_scoped2) outSet (fun i : S2x8x3x64x1024.Idx => (i 0).val) mem_outSlot out_below

/-- The output slots make the ring. -/
theorem outs_join : (bigSep Finset.univ (fun s : Fin 2 => outAny (F := F) c s) : sProp 𝕄)
    ⊢ iprop(∃ f : Buf (Elt F) ((c : Thread nD τ).loc cc0_scoped2), ((c : Thread nD τ).loc cc0_scoped2) ↦{fullShare} f) :=
  join_any (ℓ := (c : Thread nD τ).loc cc0_scoped2) outSet (fun i : S2x8x3x64x1024.Idx => (i 0).val) mem_outSlot out_below (fun _ => 0#32)

/-- With no copy under way the input blocks are all idle. -/
theorem ins_same (n : ℕ) : Ins c X n n = iprop((bigSep Finset.univ fun j : Fin 8 => srcHas c X j)
    ∗ (bigSep Finset.univ fun j : Fin 8 => slotAny (F := F) c j) ∗ bigSep Finset.univ fun j : Fin 8 => inZero (F := F) c j) := by
  rw [← bigSep_sep', ← bigSep_sep']
  unfold Ins
  exact bigSep_congr fun j _ => if_neg (by omega)

/-- Before any block is written they hold what they held. -/
theorem outs_start : Outs c X V 0 0 = bigSep Finset.univ fun j : Fin 8 => dstHas c V j := by
  unfold Outs
  exact bigSep_congr fun j _ => by rw [if_neg (Nat.not_lt_zero _), if_neg (Nat.not_lt_zero _)]

/-- After the last they hold the result. -/
theorem outs_end : Outs c X V 8 8 = bigSep Finset.univ fun j : Fin 8 => dstHas c (resultOf X) j := by
  unfold Outs
  exact bigSep_congr fun j _ => by rw [if_pos j.isLt]

/-- What the body needs, from the whole arrays and rings. -/
theorem held_of_whole : iprop(Whole c X V ∗ owesAny c) ⊢ Held c X V 0 := by
  unfold Held Whole
  rw [ins_same, outs_start, src_whole, dst_whole, bigSep_two]
  iintro ⟨⟨⟨Hi, Ho⟩, ⟨Zi, Zo⟩, Hs, Hd⟩, HW⟩
  icases Zo with ⟨Z0, Z1⟩
  ihave Hi := (slots_split c) $$ Hi
  ihave Ho := ((outs_split c).trans (Entails.of_eq (bigSep_two _))) $$ Ho
  icases Ho with ⟨O0, O1⟩
  unfold outFree
  isplitl [Hi Hs Zi]
  · isplitl [Hs]; · iexact Hs
    isplitl [Hi]; · iexact Hi
    iexact Zi
  isplitl [Hd]; · iexact Hd
  isplitl [O0 Z0]
  · isplitl [O0]; · iexact O0
    iexact Z0
  isplitl [O1 Z1]
  · isplitl [O1]; · iexact O1
    iexact Z1
  iexact HW

/-- And what it gives back: the result whole, at what it is to be. -/
theorem whole_of_held : Held c X V 8 ⊢ iprop(Whole c X (resultOf X) ∗ owesAny c) := by
  unfold Held Whole
  rw [ins_same, outs_end, src_whole, dst_whole, bigSep_two]
  unfold outFree
  iintro ⟨⟨Hs, Hi, Zi⟩, Hd, ⟨O0, Z0⟩, ⟨O1, Z1⟩, HW⟩
  ihave Hi := (slots_join c) $$ Hi
  ihave Ho := ((Entails.of_eq (bigSep_two (fun s : Fin 2 => outAny (F := F) c s)).symm).trans (outs_join c)) $$ [O0 O1]
  · isplitl [O0]; · iexact O0
    iexact O1
  isplitr [HW]; swap; · iexact HW
  isplitl [Hi Ho]
  · isplitl [Hi]; · iexact Hi
    iexact Ho
  isplitl [Zi Z0 Z1]
  · isplitl [Zi]; · iexact Zi
    isplitl [Z0]; · iexact Z0
    iexact Z1
  isplitl [Hs]; · iexact Hs
  iexact Hd

end Cert.KernelIdeal.Pipe
-- ==== Proof.Pipe.Launch.lean ====
/- The launch: the body's triple put under the library's launch theorem, and the run of the whole program — the host's
   transposition before the kernel, the kernel, the host's transposition after it — with the value of its result. -/
module

public import proofs.«01_k».proof.Proof.Pipe.Whole
public import proofs.«01_k».proof.Proof.Gen.KernelIdeal.Frame
public import Idealize.ShloMosaic.Lib.Pipeline.FrameSuffixV

@[expose] public section

noncomputable section

namespace Cert.KernelIdeal.Pipe

open Cert.KernelIdeal Cert.KernelIdeal.Gen
open Idealize.ShloMosaic Idealize.ShloMosaic.TcCoe Idealize.ShloMosaic.Tactic Idealize.ShloMosaic.Rounds
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the kernel owns -/

/-- The kernel's semaphores: one per input slot and one per output slot. -/
def osem0 : Fin 8 ⊕ Fin 2 → SemLoc sig := Sum.elim (fun j => SemLoc.dma (inCell j)) (fun s => SemLoc.dma (outCell s))
/-- The array that it reads, the transposed input. -/
def H0 : Finset (Ref sig .tc) := {main_v0}
/-- The array that it writes. -/
def R0 : Finset (Ref sig .tc) := {main_v1}

/-- The semaphores are the kernel's own and pairwise distinct. -/
theorem ownSemFacts0 : Pipeline.OwnSemFacts (cfg0.spec) osem0 := by decide
/-- Both arrays lie outside the pipeline library's windows, of which this kernel has none. -/
theorem H0_sub : H0 ⊆ Pipeline.restRefs sig (cfg0.spec) := by decide
theorem R0_sub : R0 ⊆ Pipeline.restRefs sig (cfg0.spec) \ H0 := by decide

/-- The transposed input as the kernel finds it. -/
abbrev input (c : Dev nD) : S64x64x1024.Idx → F .f32 := V m c main_v0
/-- The arrays after the kernel. -/
def after0 (c : Dev nD) : (b : Ref sig .tc) → Buf (Elt F) ((c : Thread nD τ).loc b) :=
  Function.update (V m c) main_v1 (resultOf (input m c))

/-- The result after the kernel. -/
theorem after0_v1 (c : Dev nD) : after0 m c main_v1 = resultOf (input m c) := Function.update_self ..

/-- The semaphores at zero, the input slots' and the output slots'. -/
theorem sems_eq (c : Dev nD) : (Pipeline.ownSems0 (Ix := Unit) (Name := ℕ) (U := Pipeline.UD sig nD τ) (Lvl := ℕ) (Val := Elt F) (τ := τ) osem0 c : sProp 𝕄)
    = iprop(bigSep Finset.univ (fun j : Fin 8 => inZero (F := F) c j) ∗ bigSep Finset.univ (fun s : Fin 2 => outZero (F := F) c s)) :=
  BI.bigSep_univ_sum _

/-- What the launch theorem hands over and takes back is what the body's triple speaks of. -/
theorem launch_eq (G : (c : Dev nD) → (b : Ref sig .tc) → Buf (Elt F) ((c : Thread nD τ).loc b)) (c : Dev nD) :
    (Pipeline.ΦDRV osem0 (cfg0.spec) H0 R0 (V m) G c : sProp 𝕄) = Whole c (input m c) (G c main_v1) := by
  unfold Pipeline.ΦDRV Whole
  rw [scopedRest0_eq, sems_eq]
  unfold H0 R0
  rw [bigSep_singleton, bigSep_singleton]

/-! ## The kernel's one point -/

/-- The launch's data: before the point the arrays as found, after it the result written. -/
def dats (_ : Fin 1) (c : Dev nD) : Dat τ (Elt F) Unit ℕ (Pipeline.UD sig nD τ) ℕ cfg0 c where
  A w := V m c (Pipeline.arrRef (cfg0.spec) w)
  after w t := w.elim0
  Φ k := Whole c (input m c) (if k.val = 0 then V m c main_v1 else resultOf (input m c))
  q _ := fullShare
  owed _ := 0

/-- The body's triple in the launch theorem's form. -/
theorem sound_body (c : Dev nD) (t : Fin cfg0.N) :
    iprop((dats m 0 c).Φ t.castSucc ∗ (dats m 0 c).owesAt () t.castSucc ∗ emp)
      ⊢ wp frame (wpE (defs₀ (F := F)) Variants.none (c : Thread nD τ) none) Set.univ (bodyAt0 t)
          (fun _ => iprop((dats m 0 c).Φ t.succ ∗ (dats m 0 c).owesAt () t.succ ∗ emp)) := by
  have ht : t.val = 0 := congrArg Fin.val (fin_N0 t)
  have h1 : (dats m 0 c).Φ t.castSucc = Whole c (input m c) (V m c main_v1) := congrArg (Whole c (input m c)) (if_pos ht)
  have h2 : (dats m 0 c).Φ t.succ = Whole c (input m c) (resultOf (input m c)) := congrArg (Whole c (input m c)) (if_neg (Nat.succ_ne_zero _))
  rw [h1, h2]
  have howes (k : Fin (cfg0.N + 1)) : (dats m 0 c).owesAt () k ⊢ (owesAny c : sProp 𝕄) := by
    unfold Dat.owesAt Pipeline.owesWithin owesAny
    rw [show (dats m 0 c).owed k = 0 from rfl]
    iintro ⟨%W, -, HW⟩
    iexists W
    iexact HW
  have howes' (k : Fin (cfg0.N + 1)) : (owesAny c : sProp 𝕄) ⊢ (dats m 0 c).owesAt () k := by
    unfold Dat.owesAt Pipeline.owesWithin owesAny
    rw [show (dats m 0 c).owed k = 0 from rfl]
    iintro ⟨%W, HW⟩
    iexists W
    isplitr
    · ipureintro; exact fun _ _ => Or.inl trivial
    iexact HW
  have hpre : iprop(Whole c (input m c) (V m c main_v1) ∗ (dats m 0 c).owesAt () t.castSucc ∗ emp) ⊢ (Held c (input m c) (V m c main_v1) 0 : sProp 𝕄) := by
    iintro ⟨H, HW, -⟩
    iapply (held_of_whole c (input m c) (V m c main_v1))
    isplitl [H]; · iexact H
    iapply (howes t.castSucc)
    iexact HW
  have hpost : (Held c (input m c) (V m c main_v1) 8 : sProp 𝕄) ⊢ iprop(Whole c (input m c) (resultOf (input m c)) ∗ (dats m 0 c).owesAt () t.succ ∗ emp) := by
    iintro H
    icases (whole_of_held c (input m c) (V m c main_v1)) $$ H with ⟨H, HW⟩
    isplitl [H]; · iexact H
    isplitl [HW]; swap; · iempintro
    iapply (howes' t.succ)
    iexact HW
  exact triple_restated (run_body c (input m c) (V m c main_v1) t) rfl hpre fun _ => hpost

/-- The body that the launch calls is the printed one. -/
theorem defs₀_row (t : Fin cfg0.N) : defs₀ (F := F) .tc cfg0.body (cfg0.bodyArgs t (cfg0.slots t)) = bodyAt0 t := by
  unfold defs₀; rw [Defs.onTc_tc]

/-- A kernel without windows holds nothing for them. -/
theorem no_windows (Φ : Fin cfg0.W → sProp 𝕄) : bigSep Finset.univ Φ = iprop(emp) := bigSep_empty

/-- What the launch theorem asks of the body. -/
theorem body_obligation (c : Dev nD) : BodyObligation (dats (F := F) m 0 c) (defs₀ (F := F)) Variants.none () Set.univ := fun t => by
  rw [no_windows, no_windows, defs₀_row]
  exact sound_body m c t

/-! ## The run of the program -/

/-- The program is the transposition, the kernel and the transposition. -/
theorem hmain_UD : Pipeline.HMainK (Ix := Unit) (Name := ℕ) (U := Pipeline.UD sig nD τ) (Lvl := ℕ) cfgs 0 defs₀ Variants.none m (main (F := F)) (V m)
    (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- The arrays when the program ends. -/
abbrev final (c : Dev nD) : Valuation τ sig (Elt F) :=
  StableHlo.after [hostOps1].flatten (Pipeline.withArrays (cfg0.spec) c (Pipeline.withR (V0 m c) R0 c (after0 m c)) fun w => (dats m 0 c).arrAt w cfg0.N)

set_option backward.isDefEq.respectTransparency.types false in
/-- The program's run, with every array's contents at its end and every semaphore at zero. -/
theorem run_launch : θ_run defs (onTc (τ := τ) (main (F := F))) (s₀ m ρ)
    (fun r => (∀ c : Dev nD, ∀ b ∈ Pipeline.restRefs sig (cfg0.spec), r.2.mem ((c.tc : Thread nD τ).loc b) = final m c (Proc.devRef .tc b))
      ∧ r.2.sem = fun _ => 0) :=
  Pipeline.θ_run_frame_dmaR_aroundV (Q' := _) (hQ' := fun r h => ⟨fun c => (h.1 c).2, h.2⟩) cfgs (dats m) (0 : Fin 1) launch0 osem0 defs₀ Variants.none ownSemFacts0 H0 R0 H0_sub R0_sub m ρ main
    (hbody := fun c => (body_obligation m c).loose) (hshare := fun c w => w.elim0)
    (howed := fun _ _ => rfl) (V₀ := V0 m) (opss := [hostOps1]) (hsub := sfx_sub) (hfresh := sfx_fresh) (hkeep := sfx_keeps)
    (G := after0 m) (hmain := hmain_UD m) (hA := fun _ w => w.elim0)
    (hin := fun c => Entails.of_eq (launch_eq m (V m) c))
    (hout := fun c => Entails.of_eq ((launch_eq m (after0 m) c).trans (congrArg (Whole c (input m c)) (after0_v1 m c))).symm)

end Cert.KernelIdeal.Pipe

end
-- ==== Proof.Pipe.Result.lean ====
/- The value of the program's result, and the run of the program that the claims read off. -/
module

public import proofs.«01_k».proof.Proof.Pipe.Launch
public import Idealize.ShloMosaic.Lib.Pointwise
public import Idealize.ShloMosaic.Lib.StableHlo.RunRead

@[expose] public section

noncomputable section

namespace Cert.KernelIdeal.Pipe

open Cert.KernelIdeal Cert.KernelIdeal.Gen
open Idealize.ShloMosaic Idealize.ShloMosaic.TcCoe Idealize.ShloMosaic.Tactic Idealize.ShloMosaic.Rounds
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ) (ρ : Dev nD → PrngReg)

/-- The argument is written by nothing. -/
theorem arg0_kept (c : Dev nD) : final m c (Proc.devRef .tc main_arg0) = m ((c.tc : Thread nD τ).loc main_arg0) := by
  have h1 := StableHlo.after_unwritten (τ := τ) (ops := [hostOps1 (F := F)].flatten) [main_v2] (r := main_arg0) rfl (by decide)
    (Pipeline.withArrays (cfg0.spec) c (Pipeline.withR (V0 m c) R0 c (after0 m c)) fun w => (dats m 0 c).arrAt w cfg0.N)
  rw [final, h1, Pipeline.withArrays_of_ne _ c _ _ main_arg0 (fun w => w.elim0), Pipeline.withR_of_not_mem _ _ _ _ _ (by decide)]
  exact V_main_arg0 m c

/-- The result: at row `n`, position (`b`, `h`) and class `p`, the indicator of class `p` at the input's element there. -/
def gates (e : S1024x64x64.Idx → F .f32) : S1024x64x64x3.Idx → BitVec 32 :=
  fun x => indicator (e (ix3 (x 0) (x 1) (x 2))) (x 3).val

/-- The kernel's result between the two transpositions is the gates. -/
theorem gates_eq (e : S1024x64x64.Idx → F .f32) :
    transpose S1024x64x64x3 [3, 0, 2, 1] (resultOf (transpose S64x64x1024 [1, 2, 0] e transposes_S1024x64x64_S64x64x1024_1_2_0))
      transposes_S64x3x64x1024_S1024x64x64x3_3_0_2_1 = gates e := by
  funext x
  unfold gates resultOf
  pointwise

/-- The program's result is the gates of its argument. -/
theorem result_value (c : Dev nD) : final m c (Proc.devRef .tc main_v2) = gates (m ((c.tc : Thread nD τ).loc main_arg0)) := by
  have hin : input m c = transpose S64x64x1024 [1, 2, 0] (m ((c.tc : Thread nD τ).loc main_arg0)) transposes_S1024x64x64_S64x64x1024_1_2_0 := by
    change StableHlo.after hostOps0 (fun b => m (c, b)) (Proc.devRef .tc main_v0) = _
    after_results <;> rfl
  have hout : final m c (Proc.devRef .tc main_v2)
      = transpose S1024x64x64x3 [3, 0, 2, 1] (resultOf (input m c)) transposes_S64x3x64x1024_S1024x64x64x3_3_0_2_1 := by
    have h1 : Pipeline.withArrays (cfg0.spec) c (Pipeline.withR (V0 m c) R0 c (after0 m c)) (fun w => (dats m 0 c).arrAt w cfg0.N) (Proc.devRef .tc main_v1)
        = resultOf (input m c) :=
      (Pipeline.withArrays_of_ne _ c _ _ main_v1 (fun w => w.elim0)).trans
        ((Pipeline.withR_of_mem _ _ _ _ main_v1 (by decide)).trans (after0_v1 m c))
    rw [← h1]
    change StableHlo.after hostOps1 _ (Proc.devRef .tc main_v2) = _
    after_results <;> rfl
  rw [hout, hin, gates_eq]

/-- The program's run: from any memory, at any floats, it ends with the result's gates, its argument unchanged, and every
    semaphore at zero. -/
theorem run_main : θ_run defs (onTc (τ := τ) (main (F := F))) ⟨m, fun _ => 0, ρ⟩ (fun r => (∀ c : Dev nD,
      r.2.mem ((c.tc : Thread nD τ).loc main_v2) = gates (m ((c.tc : Thread nD τ).loc main_arg0))
      ∧ r.2.mem ((c.tc : Thread nD τ).loc main_arg0) = m ((c.tc : Thread nD τ).loc main_arg0))
      ∧ r.2.sem = fun _ => 0) :=
  (θ_run defs _ _).mono (fun r h => ⟨fun c =>
      ⟨(h.1 c main_v2 (Pipeline.mem_restRefs_of main_v2 (by decide) (by decide))).trans (result_value m c),
        (h.1 c main_arg0 (Pipeline.mem_restRefs_of main_arg0 (by decide) (by decide))).trans (arg0_kept m c)⟩, h.2⟩)
    (run_launch m ρ)

end Cert.KernelIdeal.Pipe

end
-- ==== Proof.Pipe.Agree.lean ====
/- The reference's result is the kernel's: at the extended reals the three comparisons of the reference are the kernel's
   two, "at most" being "not above". -/
module

public import proofs.«01_k».proof.Proof.Pipe.Result
public import proofs.«01_k».proof.Proof.Gen.ReferenceIdeal.Run
public import Idealize.ShloMosaic.Lib.Pointwise

@[expose] public section

noncomputable section

namespace Cert.ReferenceIdeal.Pipe

open Cert.ReferenceIdeal Cert.ReferenceIdeal.Gen
open Idealize.ShloMosaic Idealize.ShloMosaic.TcCoe
open Cert.KernelIdeal.Pipe (aboveLow aboveHigh indicator gates)

variable (e : S1024x64x64.Idx → Ideal .f32)

/-- The plane of elements at most the lower threshold. -/
def coarse : S1024x64x64x1.Idx → BitVec 32 :=
  broadcastInDim S1024x64x64x1 ![0, 1, 2] bcast_S1024x64x64_S1024x64x64x1_0_1_2
    (extui 32 (cmpf (F := Ideal) (φ := .f32) .ole e (broadcastInDim S1024x64x64 ![] bcast_S_S1024x64x64 (constant S_ .f32 0x3ECCCCCD#32))) natLt_1_32)

/-- The plane of elements above the lower and at most the upper threshold. -/
def median : S1024x64x64x1.Idx → BitVec 32 :=
  broadcastInDim S1024x64x64x1 ![0, 1, 2] bcast_S1024x64x64_S1024x64x64x1_0_1_2
    (extui 32 (andi (cmpf (F := Ideal) (φ := .f32) .ole e (broadcastInDim S1024x64x64 ![] bcast_S_S1024x64x64 (constant S_ .f32 0x3F333333#32)))
      (cmpf (F := Ideal) (φ := .f32) .ogt e (broadcastInDim S1024x64x64 ![] bcast_S_S1024x64x64 (constant S_ .f32 0x3ECCCCCD#32)))) natLt_1_32)

/-- The plane of elements above the upper threshold. -/
def fine : S1024x64x64x1.Idx → BitVec 32 :=
  broadcastInDim S1024x64x64x1 ![0, 1, 2] bcast_S1024x64x64_S1024x64x64x1_0_1_2
    (extui 32 (cmpf (F := Ideal) (φ := .f32) .ogt e (broadcastInDim S1024x64x64 ![] bcast_S_S1024x64x64 (constant S_ .f32 0x3F333333#32))) natLt_1_32)

/-- The reference's result: the three planes side by side. -/
def expected : S1024x64x64x3.Idx → BitVec 32 :=
  concatenate S1024x64x64x3 3 [⟨S1024x64x64x1, coarse e⟩, ⟨S1024x64x64x1, median e⟩, ⟨S1024x64x64x1, fine e⟩]
    concatenates_S1024x64x64x1_S1024x64x64x1_S1024x64x64x1_S1024x64x64x3_d3

/-- "At most" as a number is the choice that "above" makes between 0 and 1. -/
theorem atMost_eq (a t : EReal) : BitVec.setWidth 32 (BitVec.ofBool (decide (a ≤ t))) = if t < a then 0#32 else 1#32 := by
  by_cases h : t < a
  · rw [if_pos h, decide_eq_false (not_le.mpr h)]; rfl
  · rw [if_neg h, decide_eq_true (not_lt.mp h)]; rfl

/-- "Above" as a number. -/
theorem above_eq (a t : EReal) : BitVec.setWidth 32 (BitVec.ofBool (decide (t < a))) = if t < a then 1#32 else 0#32 := by
  by_cases h : t < a
  · rw [if_pos h, decide_eq_true h]; rfl
  · rw [if_neg h, decide_eq_false h]; rfl

/-- "At most the one and above the other" as a number. -/
theorem between_eq (a t u : EReal) :
    BitVec.setWidth 32 (IntOp.andi (BitVec.ofBool (decide (a ≤ u))) (BitVec.ofBool (decide (t < a))))
      = Scalar.select (Scalar.andi (BitVec.ofBool (decide (t < a))) (Scalar.xori (BitVec.ofBool (decide (u < a))) 1#1)) 1#32 0#32 := by
  have h : decide (a ≤ u) = !decide (u < a) := by rw [← decide_not]; exact decide_eq_decide.mpr not_lt.symm
  rw [h]
  cases decide (u < a) <;> cases decide (t < a) <;> rfl

/-- Each plane is the indicator of its class. -/
theorem coarse_apply (j : S1024x64x64x1.Idx) : coarse e j = indicator (e (ix3 (j 0) (j 1) (j 2))) 0 := by
  rw [Cert.KernelIdeal.Pipe.indicator_zero]
  unfold coarse aboveLow
  pointwise
  exact atMost_eq _ _

theorem median_apply (j : S1024x64x64x1.Idx) : median e j = indicator (e (ix3 (j 0) (j 1) (j 2))) 1 := by
  rw [Cert.KernelIdeal.Pipe.indicator_one]
  unfold median aboveLow aboveHigh
  pointwise
  exact between_eq _ _ _

theorem fine_apply (j : S1024x64x64x1.Idx) : fine e j = indicator (e (ix3 (j 0) (j 1) (j 2))) 2 := by
  rw [Cert.KernelIdeal.Pipe.indicator_two]
  unfold fine aboveHigh
  pointwise
  exact above_eq _ _

/-- The reference's result is the kernel's. -/
theorem expected_eq : expected e = gates e := by
  funext j
  unfold expected gates
  pointwise
  have h3 : (j 3).val < 3 := (j 3).isLt
  split
  · next h => exact (coarse_apply e _).trans (congrArg (indicator _) (by omega))
  · split
    · next h' => exact (median_apply e _).trans (congrArg (indicator _) (by omega))
    · next h' => exact (fine_apply e _).trans (congrArg (indicator _) (by omega))

end Cert.ReferenceIdeal.Pipe

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Pipe.Agree
public import Idealize.ShloMosaic.Adequacy
public import Idealize.ShloMosaic.Init

@[expose] public section

noncomputable section

namespace Cert.Proof

open Idealize.ShloMosaic Idealize.SL.Sem

/-- The printed program runs, leaves its argument unchanged and every semaphore at zero. It is its idealization's text, so
    the idealization's run at the bit patterns is its run. -/
theorem frame_kernel : Cert.quiescent_Kernel := fun m ρ _ =>
  (θ_run Cert.KernelIdeal.defs _ _).mono (fun _ h => ⟨fun c => (h.1 c).2, h.2⟩) (Cert.KernelIdeal.Pipe.run_main (F := Bits) m ρ)

/-- So does its idealization at the extended reals. -/
theorem frame_kernelIdeal : Cert.quiescent_KernelIdeal := fun m ρ _ =>
  (θ_run Cert.KernelIdeal.defs _ _).mono (fun _ h => ⟨fun c => (h.1 c).2, h.2⟩) (Cert.KernelIdeal.Pipe.run_main (F := Ideal) m ρ)

/-- So does the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- At the extended reals the kernel and the reference end with the same result: the gates of the input. -/
theorem algebraic : Cert.algebraic_KernelIdeal_ReferenceIdeal := fun m ρ m' ρ' _ hagree =>
  ⟨fun c => Cert.KernelIdeal.Pipe.gates (m ((c.tc : Thread Cert.KernelIdeal.nD Cert.KernelIdeal.τ).loc Cert.KernelIdeal.main_arg0)),
    (θ_run Cert.KernelIdeal.defs _ _).mono (fun _ h c => h.1 c) (Cert.KernelIdeal.Pipe.run_main (F := Ideal) m ρ),
    (θ_run Cert.ReferenceIdeal.defs _ _).mono
      (fun _ h c => ⟨((h c).1.trans (Cert.ReferenceIdeal.Pipe.expected_eq _)).trans (congrArg Cert.KernelIdeal.Pipe.gates (hagree c)), (h c).2⟩)
      (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_reference, trivial, algebraic⟩

end Cert.Proof

end
